-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierIdeal_fourier_tables [hPre_fourier_tables : Cert.Pre_fourier_tables.Facts] (m : (ℓ : Loc Cert.FourierIdeal.nD Cert.FourierIdeal.τ Cert.FourierIdeal.sig) → Buf (Elt Ideal) ℓ) : Prop :=
  ∀ c : Dev Cert.FourierIdeal.nD,
    (Cert.Pre_fourier_tables.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))).1 = (fun _ => 1#1)
    ∧ (Cert.Pre_fourier_tables.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))).2.1 = (fun _ => 1#1)
    ∧ (Cert.Pre_fourier_tables.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))).2.2.1 = (fun _ => 1#1)
    ∧ (Cert.Pre_fourier_tables.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))).2.2.2.1 = (fun _ => 1#1)
    ∧ (Cert.Pre_fourier_tables.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))).2.2.2.2.1 = (fun _ => 1#1)
    ∧ (Cert.Pre_fourier_tables.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))).2.2.2.2.2.1 = (fun _ => 1#1)
    ∧ (Cert.Pre_fourier_tables.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))).2.2.2.2.2.2.1 = (fun _ => 1#1)
    ∧ (Cert.Pre_fourier_tables.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))).2.2.2.2.2.2.2.1 = (fun _ => 1#1)
    ∧ (Cert.Pre_fourier_tables.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))).2.2.2.2.2.2.2.2.1 = (fun _ => 1#1)
    ∧ (Cert.Pre_fourier_tables.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))).2.2.2.2.2.2.2.2.2.1 = (fun _ => 1#1)
    ∧ (Cert.Pre_fourier_tables.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))).2.2.2.2.2.2.2.2.2.2.1 = (fun _ => 1#1)
    ∧ (Cert.Pre_fourier_tables.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))).2.2.2.2.2.2.2.2.2.2.2.1 = (fun _ => 1#1)
    ∧ (Cert.Pre_fourier_tables.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))).2.2.2.2.2.2.2.2.2.2.2.2 = (fun _ => 1#1)

def Pre_FourierRefIdeal (m : (ℓ : Loc Cert.FourierRefIdeal.nD Cert.FourierRefIdeal.τ Cert.FourierRefIdeal.sig) → Buf (Elt Ideal) ℓ) : Prop :=
  True

def Pre_FourierRefIdeal_fourier_tables [hPre_fourier_tables : Cert.Pre_fourier_tables.Facts] (m : (ℓ : Loc Cert.FourierRefIdeal.nD Cert.FourierRefIdeal.τ Cert.FourierRefIdeal.sig) → Buf (Elt Ideal) ℓ) : Prop :=
  ∀ c : Dev Cert.FourierRefIdeal.nD,
    (Cert.Pre_fourier_tables.fn (F := Ideal) (m ((c.tc : Thread Cert.FourierRefIdeal.nD Cert.FourierRefIdeal.τ).loc Cert.FourierRefIdeal.main_arg0)) (m ((c.tc : Thread Cert.FourierRefIdeal.nD Cert.FourierRefIdeal.τ).loc Cert.FourierRefIdeal.main_arg1)) (m ((c.tc : Thread Cert.FourierRefIdeal.nD Cert.FourierRefIdeal.τ).loc Cert.FourierRefIdeal.main_arg2)) (m ((c.tc : Thread Cert.FourierRefIdeal.nD Cert.FourierRefIdeal.τ).loc Cert.FourierRefIdeal.main_arg3)) (m ((c.tc : Thread Cert.FourierRefIdeal.nD Cert.FourierRefIdeal.τ).loc Cert.FourierRefIdeal.main_arg4))).1 = (fun _ => 1#1)
    ∧ (Cert.Pre_fourier_tables.fn (F := Ideal) (m ((c.tc : Thread Cert.FourierRefIdeal.nD Cert.FourierRefIdeal.τ).loc Cert.FourierRefIdeal.main_arg0)) (m ((c.tc : Thread Cert.FourierRefIdeal.nD Cert.FourierRefIdeal.τ).loc Cert.FourierRefIdeal.main_arg1)) (m ((c.tc : Thread Cert.FourierRefIdeal.nD Cert.FourierRefIdeal.τ).loc Cert.FourierRefIdeal.main_arg2)) (m ((c.tc : Thread Cert.FourierRefIdeal.nD Cert.FourierRefIdeal.τ).loc Cert.FourierRefIdeal.main_arg3)) (m ((c.tc : Thread Cert.FourierRefIdeal.nD Cert.FourierRefIdeal.τ).loc Cert.FourierRefIdeal.main_arg4))).2.1 = (fun _ => 1#1)
    ∧ (Cert.Pre_fourier_tables.fn (F := Ideal) (m ((c.tc : Thread Cert.FourierRefIdeal.nD Cert.FourierRefIdeal.τ).loc Cert.FourierRefIdeal.main_arg0)) (m ((c.tc : Thread Cert.FourierRefIdeal.nD Cert.FourierRefIdeal.τ).loc Cert.FourierRefIdeal.main_arg1)) (m ((c.tc : Thread Cert.FourierRefIdeal.nD Cert.FourierRefIdeal.τ).loc Cert.FourierRefIdeal.main_arg2)) (m ((c.tc : Thread Cert.FourierRefIdeal.nD Cert.FourierRefIdeal.τ).loc Cert.FourierRefIdeal.main_arg3)) (m ((c.tc : Thread Cert.FourierRefIdeal.nD Cert.FourierRefIdeal.τ).loc Cert.FourierRefIdeal.main_arg4))).2.2.1 = (fun _ => 1#1)
    ∧ (Cert.Pre_fourier_tables.fn (F := Ideal) (m ((c.tc : Thread Cert.FourierRefIdeal.nD Cert.FourierRefIdeal.τ).loc Cert.FourierRefIdeal.main_arg0)) (m ((c.tc : Thread Cert.FourierRefIdeal.nD Cert.FourierRefIdeal.τ).loc Cert.FourierRefIdeal.main_arg1)) (m ((c.tc : Thread Cert.FourierRefIdeal.nD Cert.FourierRefIdeal.τ).loc Cert.FourierRefIdeal.main_arg2)) (m ((c.tc : Thread Cert.FourierRefIdeal.nD Cert.FourierRefIdeal.τ).loc Cert.FourierRefIdeal.main_arg3)) (m ((c.tc : Thread Cert.FourierRefIdeal.nD Cert.FourierRefIdeal.τ).loc Cert.FourierRefIdeal.main_arg4))).2.2.2.1 = (fun _ => 1#1)
    ∧ (Cert.Pre_fourier_tables.fn (F := Ideal) (m ((c.tc : Thread Cert.FourierRefIdeal.nD Cert.FourierRefIdeal.τ).loc Cert.FourierRefIdeal.main_arg0)) (m ((c.tc : Thread Cert.FourierRefIdeal.nD Cert.FourierRefIdeal.τ).loc Cert.FourierRefIdeal.main_arg1)) (m ((c.tc : Thread Cert.FourierRefIdeal.nD Cert.FourierRefIdeal.τ).loc Cert.FourierRefIdeal.main_arg2)) (m ((c.tc : Thread Cert.FourierRefIdeal.nD Cert.FourierRefIdeal.τ).loc Cert.FourierRefIdeal.main_arg3)) (m ((c.tc : Thread Cert.FourierRefIdeal.nD Cert.FourierRefIdeal.τ).loc Cert.FourierRefIdeal.main_arg4))).2.2.2.2.1 = (fun _ => 1#1)
    ∧ (Cert.Pre_fourier_tables.fn (F := Ideal) (m ((c.tc : Thread Cert.FourierRefIdeal.nD Cert.FourierRefIdeal.τ).loc Cert.FourierRefIdeal.main_arg0)) (m ((c.tc : Thread Cert.FourierRefIdeal.nD Cert.FourierRefIdeal.τ).loc Cert.FourierRefIdeal.main_arg1)) (m ((c.tc : Thread Cert.FourierRefIdeal.nD Cert.FourierRefIdeal.τ).loc Cert.FourierRefIdeal.main_arg2)) (m ((c.tc : Thread Cert.FourierRefIdeal.nD Cert.FourierRefIdeal.τ).loc Cert.FourierRefIdeal.main_arg3)) (m ((c.tc : Thread Cert.FourierRefIdeal.nD Cert.FourierRefIdeal.τ).loc Cert.FourierRefIdeal.main_arg4))).2.2.2.2.2.1 = (fun _ => 1#1)
    ∧ (Cert.Pre_fourier_tables.fn (F := Ideal) (m ((c.tc : Thread Cert.FourierRefIdeal.nD Cert.FourierRefIdeal.τ).loc Cert.FourierRefIdeal.main_arg0)) (m ((c.tc : Thread Cert.FourierRefIdeal.nD Cert.FourierRefIdeal.τ).loc Cert.FourierRefIdeal.main_arg1)) (m ((c.tc : Thread Cert.FourierRefIdeal.nD Cert.FourierRefIdeal.τ).loc Cert.FourierRefIdeal.main_arg2)) (m ((c.tc : Thread Cert.FourierRefIdeal.nD Cert.FourierRefIdeal.τ).loc Cert.FourierRefIdeal.main_arg3)) (m ((c.tc : Thread Cert.FourierRefIdeal.nD Cert.FourierRefIdeal.τ).loc Cert.FourierRefIdeal.main_arg4))).2.2.2.2.2.2.1 = (fun _ => 1#1)
    ∧ (Cert.Pre_fourier_tables.fn (F := Ideal) (m ((c.tc : Thread Cert.FourierRefIdeal.nD Cert.FourierRefIdeal.τ).loc Cert.FourierRefIdeal.main_arg0)) (m ((c.tc : Thread Cert.FourierRefIdeal.nD Cert.FourierRefIdeal.τ).loc Cert.FourierRefIdeal.main_arg1)) (m ((c.tc : Thread Cert.FourierRefIdeal.nD Cert.FourierRefIdeal.τ).loc Cert.FourierRefIdeal.main_arg2)) (m ((c.tc : Thread Cert.FourierRefIdeal.nD Cert.FourierRefIdeal.τ).loc Cert.FourierRefIdeal.main_arg3)) (m ((c.tc : Thread Cert.FourierRefIdeal.nD Cert.FourierRefIdeal.τ).loc Cert.FourierRefIdeal.main_arg4))).2.2.2.2.2.2.2.1 = (fun _ => 1#1)
    ∧ (Cert.Pre_fourier_tables.fn (F := Ideal) (m ((c.tc : Thread Cert.FourierRefIdeal.nD Cert.FourierRefIdeal.τ).loc Cert.FourierRefIdeal.main_arg0)) (m ((c.tc : Thread Cert.FourierRefIdeal.nD Cert.FourierRefIdeal.τ).loc Cert.FourierRefIdeal.main_arg1)) (m ((c.tc : Thread Cert.FourierRefIdeal.nD Cert.FourierRefIdeal.τ).loc Cert.FourierRefIdeal.main_arg2)) (m ((c.tc : Thread Cert.FourierRefIdeal.nD Cert.FourierRefIdeal.τ).loc Cert.FourierRefIdeal.main_arg3)) (m ((c.tc : Thread Cert.FourierRefIdeal.nD Cert.FourierRefIdeal.τ).loc Cert.FourierRefIdeal.main_arg4))).2.2.2.2.2.2.2.2.1 = (fun _ => 1#1)
    ∧ (Cert.Pre_fourier_tables.fn (F := Ideal) (m ((c.tc : Thread Cert.FourierRefIdeal.nD Cert.FourierRefIdeal.τ).loc Cert.FourierRefIdeal.main_arg0)) (m ((c.tc : Thread Cert.FourierRefIdeal.nD Cert.FourierRefIdeal.τ).loc Cert.FourierRefIdeal.main_arg1)) (m ((c.tc : Thread Cert.FourierRefIdeal.nD Cert.FourierRefIdeal.τ).loc Cert.FourierRefIdeal.main_arg2)) (m ((c.tc : Thread Cert.FourierRefIdeal.nD Cert.FourierRefIdeal.τ).loc Cert.FourierRefIdeal.main_arg3)) (m ((c.tc : Thread Cert.FourierRefIdeal.nD Cert.FourierRefIdeal.τ).loc Cert.FourierRefIdeal.main_arg4))).2.2.2.2.2.2.2.2.2.1 = (fun _ => 1#1)
    ∧ (Cert.Pre_fourier_tables.fn (F := Ideal) (m ((c.tc : Thread Cert.FourierRefIdeal.nD Cert.FourierRefIdeal.τ).loc Cert.FourierRefIdeal.main_arg0)) (m ((c.tc : Thread Cert.FourierRefIdeal.nD Cert.FourierRefIdeal.τ).loc Cert.FourierRefIdeal.main_arg1)) (m ((c.tc : Thread Cert.FourierRefIdeal.nD Cert.FourierRefIdeal.τ).loc Cert.FourierRefIdeal.main_arg2)) (m ((c.tc : Thread Cert.FourierRefIdeal.nD Cert.FourierRefIdeal.τ).loc Cert.FourierRefIdeal.main_arg3)) (m ((c.tc : Thread Cert.FourierRefIdeal.nD Cert.FourierRefIdeal.τ).loc Cert.FourierRefIdeal.main_arg4))).2.2.2.2.2.2.2.2.2.2.1 = (fun _ => 1#1)
    ∧ (Cert.Pre_fourier_tables.fn (F := Ideal) (m ((c.tc : Thread Cert.FourierRefIdeal.nD Cert.FourierRefIdeal.τ).loc Cert.FourierRefIdeal.main_arg0)) (m ((c.tc : Thread Cert.FourierRefIdeal.nD Cert.FourierRefIdeal.τ).loc Cert.FourierRefIdeal.main_arg1)) (m ((c.tc : Thread Cert.FourierRefIdeal.nD Cert.FourierRefIdeal.τ).loc Cert.FourierRefIdeal.main_arg2)) (m ((c.tc : Thread Cert.FourierRefIdeal.nD Cert.FourierRefIdeal.τ).loc Cert.FourierRefIdeal.main_arg3)) (m ((c.tc : Thread Cert.FourierRefIdeal.nD Cert.FourierRefIdeal.τ).loc Cert.FourierRefIdeal.main_arg4))).2.2.2.2.2.2.2.2.2.2.2.1 = (fun _ => 1#1)
    ∧ (Cert.Pre_fourier_tables.fn (F := Ideal) (m ((c.tc : Thread Cert.FourierRefIdeal.nD Cert.FourierRefIdeal.τ).loc Cert.FourierRefIdeal.main_arg0)) (m ((c.tc : Thread Cert.FourierRefIdeal.nD Cert.FourierRefIdeal.τ).loc Cert.FourierRefIdeal.main_arg1)) (m ((c.tc : Thread Cert.FourierRefIdeal.nD Cert.FourierRefIdeal.τ).loc Cert.FourierRefIdeal.main_arg2)) (m ((c.tc : Thread Cert.FourierRefIdeal.nD Cert.FourierRefIdeal.τ).loc Cert.FourierRefIdeal.main_arg3)) (m ((c.tc : Thread Cert.FourierRefIdeal.nD Cert.FourierRefIdeal.τ).loc Cert.FourierRefIdeal.main_arg4))).2.2.2.2.2.2.2.2.2.2.2.2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16)
      ∧ r.2.mem ((c.tc : Thread Cert.Mixer.nD Cert.Mixer.τ).loc Cert.Mixer.main_arg17) = m ((c.tc : Thread Cert.Mixer.nD Cert.Mixer.τ).loc Cert.Mixer.main_arg17)
      ∧ r.2.mem ((c.tc : Thread Cert.Mixer.nD Cert.Mixer.τ).loc Cert.Mixer.main_arg18) = m ((c.tc : Thread Cert.Mixer.nD Cert.Mixer.τ).loc Cert.Mixer.main_arg18))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
      ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16)
      ∧ r.2.mem ((c.tc : Thread Cert.MixerRefIdeal.nD Cert.MixerRefIdeal.τ).loc Cert.MixerRefIdeal.main_arg17) = m ((c.tc : Thread Cert.MixerRefIdeal.nD Cert.MixerRefIdeal.τ).loc Cert.MixerRefIdeal.main_arg17)
      ∧ r.2.mem ((c.tc : Thread Cert.MixerRefIdeal.nD Cert.MixerRefIdeal.τ).loc Cert.MixerRefIdeal.main_arg18) = m ((c.tc : Thread Cert.MixerRefIdeal.nD Cert.MixerRefIdeal.τ).loc Cert.MixerRefIdeal.main_arg18))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1)
      ∧ r.2.mem ((c.tc : Thread Cert.Fourier.nD Cert.Fourier.τ).loc Cert.Fourier.main_arg2) = m ((c.tc : Thread Cert.Fourier.nD Cert.Fourier.τ).loc Cert.Fourier.main_arg2)
      ∧ r.2.mem ((c.tc : Thread Cert.Fourier.nD Cert.Fourier.τ).loc Cert.Fourier.main_arg3) = m ((c.tc : Thread Cert.Fourier.nD Cert.Fourier.τ).loc Cert.Fourier.main_arg3)
      ∧ r.2.mem ((c.tc : Thread Cert.Fourier.nD Cert.Fourier.τ).loc Cert.Fourier.main_arg4) = m ((c.tc : Thread Cert.Fourier.nD Cert.Fourier.τ).loc Cert.Fourier.main_arg4))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
      ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2)
      ∧ r.2.mem ((c.tc : Thread Cert.FourierIdeal.nD Cert.FourierIdeal.τ).loc Cert.FourierIdeal.main_arg3) = m ((c.tc : Thread Cert.FourierIdeal.nD Cert.FourierIdeal.τ).loc Cert.FourierIdeal.main_arg3)
      ∧ r.2.mem ((c.tc : Thread Cert.FourierIdeal.nD Cert.FourierIdeal.τ).loc Cert.FourierIdeal.main_arg4) = m ((c.tc : Thread Cert.FourierIdeal.nD Cert.FourierIdeal.τ).loc Cert.FourierIdeal.main_arg4))
      ∧ r.2.sem = fun _ => 0)

def quiescent_FourierIdeal_pre_fourier_tables [hFourierIdeal : Cert.FourierIdeal.Facts] [hPre_fourier_tables : Cert.Pre_fourier_tables.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal_fourier_tables m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
      ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2)
      ∧ r.2.mem ((c.tc : Thread Cert.FourierIdeal.nD Cert.FourierIdeal.τ).loc Cert.FourierIdeal.main_arg3) = m ((c.tc : Thread Cert.FourierIdeal.nD Cert.FourierIdeal.τ).loc Cert.FourierIdeal.main_arg3)
      ∧ r.2.mem ((c.tc : Thread Cert.FourierIdeal.nD Cert.FourierIdeal.τ).loc Cert.FourierIdeal.main_arg4) = m ((c.tc : Thread Cert.FourierIdeal.nD Cert.FourierIdeal.τ).loc Cert.FourierIdeal.main_arg4))
      ∧ r.2.sem = fun _ => 0)

def quiescent_FourierRefIdeal [hFourierRefIdeal : Cert.FourierRefIdeal.Facts] : Prop :=
  ∀ (m : (ℓ : Loc Cert.FourierRefIdeal.nD Cert.FourierRefIdeal.τ Cert.FourierRefIdeal.sig) → Buf (Elt Ideal) ℓ) (g : Dev Cert.FourierRefIdeal.nD → PrngReg), Pre_FourierRefIdeal m →
    θ_run (Cert.FourierRefIdeal.defs (F := Ideal)) (onTc (τ := Cert.FourierRefIdeal.τ) (Cert.FourierRefIdeal.main (F := Ideal))) ⟨m, fun _ => 0, g⟩ (fun r => (∀ c : Dev Cert.FourierRefIdeal.nD,
      r.2.mem ((c.tc : Thread Cert.FourierRefIdeal.nD Cert.FourierRefIdeal.τ).loc Cert.FourierRefIdeal.main_arg0) = m ((c.tc : Thread Cert.FourierRefIdeal.nD Cert.FourierRefIdeal.τ).loc Cert.FourierRefIdeal.main_arg0)
      ∧ r.2.mem ((c.tc : Thread Cert.FourierRefIdeal.nD Cert.FourierRefIdeal.τ).loc Cert.FourierRefIdeal.main_arg1) = m ((c.tc : Thread Cert.FourierRefIdeal.nD Cert.FourierRefIdeal.τ).loc Cert.FourierRefIdeal.main_arg1)
      ∧ r.2.mem ((c.tc : Thread Cert.FourierRefIdeal.nD Cert.FourierRefIdeal.τ).loc Cert.FourierRefIdeal.main_arg2) = m ((c.tc : Thread Cert.FourierRefIdeal.nD Cert.FourierRefIdeal.τ).loc Cert.FourierRefIdeal.main_arg2)
      ∧ r.2.mem ((c.tc : Thread Cert.FourierRefIdeal.nD Cert.FourierRefIdeal.τ).loc Cert.FourierRefIdeal.main_arg3) = m ((c.tc : Thread Cert.FourierRefIdeal.nD Cert.FourierRefIdeal.τ).loc Cert.FourierRefIdeal.main_arg3)
      ∧ r.2.mem ((c.tc : Thread Cert.FourierRefIdeal.nD Cert.FourierRefIdeal.τ).loc Cert.FourierRefIdeal.main_arg4) = m ((c.tc : Thread Cert.FourierRefIdeal.nD Cert.FourierRefIdeal.τ).loc Cert.FourierRefIdeal.main_arg4))
      ∧ r.2.sem = fun _ => 0)

def quiescent_FourierRefIdeal_pre_fourier_tables [hFourierRefIdeal : Cert.FourierRefIdeal.Facts] [hPre_fourier_tables : Cert.Pre_fourier_tables.Facts] : Prop :=
  ∀ (m : (ℓ : Loc Cert.FourierRefIdeal.nD Cert.FourierRefIdeal.τ Cert.FourierRefIdeal.sig) → Buf (Elt Ideal) ℓ) (g : Dev Cert.FourierRefIdeal.nD → PrngReg), Pre_FourierRefIdeal_fourier_tables m →
    θ_run (Cert.FourierRefIdeal.defs (F := Ideal)) (onTc (τ := Cert.FourierRefIdeal.τ) (Cert.FourierRefIdeal.main (F := Ideal))) ⟨m, fun _ => 0, g⟩ (fun r => (∀ c : Dev Cert.FourierRefIdeal.nD,
      r.2.mem ((c.tc : Thread Cert.FourierRefIdeal.nD Cert.FourierRefIdeal.τ).loc Cert.FourierRefIdeal.main_arg0) = m ((c.tc : Thread Cert.FourierRefIdeal.nD Cert.FourierRefIdeal.τ).loc Cert.FourierRefIdeal.main_arg0)
      ∧ r.2.mem ((c.tc : Thread Cert.FourierRefIdeal.nD Cert.FourierRefIdeal.τ).loc Cert.FourierRefIdeal.main_arg1) = m ((c.tc : Thread Cert.FourierRefIdeal.nD Cert.FourierRefIdeal.τ).loc Cert.FourierRefIdeal.main_arg1)
      ∧ r.2.mem ((c.tc : Thread Cert.FourierRefIdeal.nD Cert.FourierRefIdeal.τ).loc Cert.FourierRefIdeal.main_arg2) = m ((c.tc : Thread Cert.FourierRefIdeal.nD Cert.FourierRefIdeal.τ).loc Cert.FourierRefIdeal.main_arg2)
      ∧ r.2.mem ((c.tc : Thread Cert.FourierRefIdeal.nD Cert.FourierRefIdeal.τ).loc Cert.FourierRefIdeal.main_arg3) = m ((c.tc : Thread Cert.FourierRefIdeal.nD Cert.FourierRefIdeal.τ).loc Cert.FourierRefIdeal.main_arg3)
      ∧ r.2.mem ((c.tc : Thread Cert.FourierRefIdeal.nD Cert.FourierRefIdeal.τ).loc Cert.FourierRefIdeal.main_arg4) = m ((c.tc : Thread Cert.FourierRefIdeal.nD Cert.FourierRefIdeal.τ).loc Cert.FourierRefIdeal.main_arg4))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v12) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)
      ∧ m' ((c.tc : Thread Cert.MixerRefIdeal.nD Cert.MixerRefIdeal.τ).loc Cert.MixerRefIdeal.main_arg14) = m ((c.tc : Thread Cert.MixerIdeal.nD Cert.MixerIdeal.τ).loc Cert.MixerIdeal.main_arg14)
      ∧ m' ((c.tc : Thread Cert.MixerRefIdeal.nD Cert.MixerRefIdeal.τ).loc Cert.MixerRefIdeal.main_arg15) = m ((c.tc : Thread Cert.MixerIdeal.nD Cert.MixerIdeal.τ).loc Cert.MixerIdeal.main_arg15)
      ∧ m' ((c.tc : Thread Cert.MixerRefIdeal.nD Cert.MixerRefIdeal.τ).loc Cert.MixerRefIdeal.main_arg16) = m ((c.tc : Thread Cert.MixerIdeal.nD Cert.MixerIdeal.τ).loc Cert.MixerIdeal.main_arg16)
      ∧ m' ((c.tc : Thread Cert.MixerRefIdeal.nD Cert.MixerRefIdeal.τ).loc Cert.MixerRefIdeal.main_arg17) = m ((c.tc : Thread Cert.MixerIdeal.nD Cert.MixerIdeal.τ).loc Cert.MixerIdeal.main_arg17)
      ∧ m' ((c.tc : Thread Cert.MixerRefIdeal.nD Cert.MixerRefIdeal.τ).loc Cert.MixerRefIdeal.main_arg18) = m ((c.tc : Thread Cert.MixerIdeal.nD Cert.MixerIdeal.τ).loc Cert.MixerIdeal.main_arg18)) →
    ∃ (v0 : (c : Dev Cert.MixerIdeal.nD) → Buf (Elt Ideal) ((c.tc : Thread Cert.MixerIdeal.nD Cert.MixerIdeal.τ).loc Cert.MixerIdeal.main_v19_0)) (v1 : (c : Dev Cert.MixerIdeal.nD) → Buf (Elt Ideal) ((c.tc : Thread Cert.MixerIdeal.nD Cert.MixerIdeal.τ).loc Cert.MixerIdeal.main_v19_1)) (v2 : (c : Dev Cert.MixerIdeal.nD) → Buf (Elt Ideal) ((c.tc : Thread Cert.MixerIdeal.nD Cert.MixerIdeal.τ).loc Cert.MixerIdeal.main_v19_2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v19_0) = v0 c
          ∧ r.2.mem ((c.tc : Thread Cert.MixerIdeal.nD Cert.MixerIdeal.τ).loc Cert.MixerIdeal.main_v19_1) = v1 c
          ∧ r.2.mem ((c.tc : Thread Cert.MixerIdeal.nD Cert.MixerIdeal.τ).loc Cert.MixerIdeal.main_v19_2) = v2 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
          ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
          ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
          ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
          ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v320) = v0 c
          ∧ r.2.mem ((c.tc : Thread Cert.MixerRefIdeal.nD Cert.MixerRefIdeal.τ).loc Cert.MixerRefIdeal.main_v343) = v1 c
          ∧ r.2.mem ((c.tc : Thread Cert.MixerRefIdeal.nD Cert.MixerRefIdeal.τ).loc Cert.MixerRefIdeal.main_v344) = v2 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13)
          ∧ r.2.mem ((c.tc : Thread Cert.MixerRefIdeal.nD Cert.MixerRefIdeal.τ).loc Cert.MixerRefIdeal.main_arg14) = m' ((c.tc : Thread Cert.MixerRefIdeal.nD Cert.MixerRefIdeal.τ).loc Cert.MixerRefIdeal.main_arg14)
          ∧ r.2.mem ((c.tc : Thread Cert.MixerRefIdeal.nD Cert.MixerRefIdeal.τ).loc Cert.MixerRefIdeal.main_arg15) = m' ((c.tc : Thread Cert.MixerRefIdeal.nD Cert.MixerRefIdeal.τ).loc Cert.MixerRefIdeal.main_arg15)
          ∧ r.2.mem ((c.tc : Thread Cert.MixerRefIdeal.nD Cert.MixerRefIdeal.τ).loc Cert.MixerRefIdeal.main_arg16) = m' ((c.tc : Thread Cert.MixerRefIdeal.nD Cert.MixerRefIdeal.τ).loc Cert.MixerRefIdeal.main_arg16)
          ∧ r.2.mem ((c.tc : Thread Cert.MixerRefIdeal.nD Cert.MixerRefIdeal.τ).loc Cert.MixerRefIdeal.main_arg17) = m' ((c.tc : Thread Cert.MixerRefIdeal.nD Cert.MixerRefIdeal.τ).loc Cert.MixerRefIdeal.main_arg17)
          ∧ r.2.mem ((c.tc : Thread Cert.MixerRefIdeal.nD Cert.MixerRefIdeal.τ).loc Cert.MixerRefIdeal.main_arg18) = m' ((c.tc : Thread Cert.MixerRefIdeal.nD Cert.MixerRefIdeal.τ).loc Cert.MixerRefIdeal.main_arg18))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v5_0)) (v1 : (c : Dev Cert.ProjIdeal.nD) → Buf (Elt Ideal) ((c.tc : Thread Cert.ProjIdeal.nD Cert.ProjIdeal.τ).loc Cert.ProjIdeal.main_v5_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5_0) = v0 c
          ∧ r.2.mem ((c.tc : Thread Cert.ProjIdeal.nD Cert.ProjIdeal.τ).loc Cert.ProjIdeal.main_v5_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v50) = v0 c
          ∧ r.2.mem ((c.tc : Thread Cert.ProjRefIdeal.nD Cert.ProjRefIdeal.τ).loc Cert.ProjRefIdeal.main_v51) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Fourier_FourierIdeal : Prop :=
  True

def algebraic_FourierIdeal_FourierRefIdeal_pre_fourier_tables [hFourierIdeal : Cert.FourierIdeal.Facts] [hFourierRefIdeal : Cert.FourierRefIdeal.Facts] [hPre_fourier_tables : Cert.Pre_fourier_tables.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierRefIdeal.nD Cert.FourierRefIdeal.τ Cert.FourierRefIdeal.sig) → Buf (Elt Ideal) ℓ) (g' : Dev Cert.FourierRefIdeal.nD → PrngReg), Pre_FourierIdeal_fourier_tables m →
    (∀ c : Dev Cert.FourierIdeal.nD,
      m' ((c.tc : Thread Cert.FourierRefIdeal.nD Cert.FourierRefIdeal.τ).loc Cert.FourierRefIdeal.main_arg0) = m ((c.tc : Thread Cert.FourierIdeal.nD Cert.FourierIdeal.τ).loc Cert.FourierIdeal.main_arg0)
      ∧ m' ((c.tc : Thread Cert.FourierRefIdeal.nD Cert.FourierRefIdeal.τ).loc Cert.FourierRefIdeal.main_arg1) = m ((c.tc : Thread Cert.FourierIdeal.nD Cert.FourierIdeal.τ).loc Cert.FourierIdeal.main_arg1)
      ∧ m' ((c.tc : Thread Cert.FourierRefIdeal.nD Cert.FourierRefIdeal.τ).loc Cert.FourierRefIdeal.main_arg2) = m ((c.tc : Thread Cert.FourierIdeal.nD Cert.FourierIdeal.τ).loc Cert.FourierIdeal.main_arg2)
      ∧ m' ((c.tc : Thread Cert.FourierRefIdeal.nD Cert.FourierRefIdeal.τ).loc Cert.FourierRefIdeal.main_arg3) = m ((c.tc : Thread Cert.FourierIdeal.nD Cert.FourierIdeal.τ).loc Cert.FourierIdeal.main_arg3)
      ∧ m' ((c.tc : Thread Cert.FourierRefIdeal.nD Cert.FourierRefIdeal.τ).loc Cert.FourierRefIdeal.main_arg4) = m ((c.tc : Thread Cert.FourierIdeal.nD Cert.FourierIdeal.τ).loc Cert.FourierIdeal.main_arg4)) →
    ∃ (v0 : (c : Dev Cert.FourierIdeal.nD) → Buf (Elt Ideal) ((c.tc : Thread Cert.FourierIdeal.nD Cert.FourierIdeal.τ).loc Cert.FourierIdeal.main_v18)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v18) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
          ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
          ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2)
          ∧ r.2.mem ((c.tc : Thread Cert.FourierIdeal.nD Cert.FourierIdeal.τ).loc Cert.FourierIdeal.main_arg3) = m ((c.tc : Thread Cert.FourierIdeal.nD Cert.FourierIdeal.τ).loc Cert.FourierIdeal.main_arg3)
          ∧ r.2.mem ((c.tc : Thread Cert.FourierIdeal.nD Cert.FourierIdeal.τ).loc Cert.FourierIdeal.main_arg4) = m ((c.tc : Thread Cert.FourierIdeal.nD Cert.FourierIdeal.τ).loc Cert.FourierIdeal.main_arg4))
      ∧ θ_run (Cert.FourierRefIdeal.defs (F := Ideal)) (onTc (τ := Cert.FourierRefIdeal.τ) (Cert.FourierRefIdeal.main (F := Ideal))) ⟨m', fun _ => 0, g'⟩ (fun r => ∀ c : Dev Cert.FourierRefIdeal.nD,
          r.2.mem ((c.tc : Thread Cert.FourierRefIdeal.nD Cert.FourierRefIdeal.τ).loc Cert.FourierRefIdeal.main_v15) = v0 c
          ∧ r.2.mem ((c.tc : Thread Cert.FourierRefIdeal.nD Cert.FourierRefIdeal.τ).loc Cert.FourierRefIdeal.main_arg0) = m' ((c.tc : Thread Cert.FourierRefIdeal.nD Cert.FourierRefIdeal.τ).loc Cert.FourierRefIdeal.main_arg0)
          ∧ r.2.mem ((c.tc : Thread Cert.FourierRefIdeal.nD Cert.FourierRefIdeal.τ).loc Cert.FourierRefIdeal.main_arg1) = m' ((c.tc : Thread Cert.FourierRefIdeal.nD Cert.FourierRefIdeal.τ).loc Cert.FourierRefIdeal.main_arg1)
          ∧ r.2.mem ((c.tc : Thread Cert.FourierRefIdeal.nD Cert.FourierRefIdeal.τ).loc Cert.FourierRefIdeal.main_arg2) = m' ((c.tc : Thread Cert.FourierRefIdeal.nD Cert.FourierRefIdeal.τ).loc Cert.FourierRefIdeal.main_arg2)
          ∧ r.2.mem ((c.tc : Thread Cert.FourierRefIdeal.nD Cert.FourierRefIdeal.τ).loc Cert.FourierRefIdeal.main_arg3) = m' ((c.tc : Thread Cert.FourierRefIdeal.nD Cert.FourierRefIdeal.τ).loc Cert.FourierRefIdeal.main_arg3)
          ∧ r.2.mem ((c.tc : Thread Cert.FourierRefIdeal.nD Cert.FourierRefIdeal.τ).loc Cert.FourierRefIdeal.main_arg4) = m' ((c.tc : Thread Cert.FourierRefIdeal.nD Cert.FourierRefIdeal.τ).loc Cert.FourierRefIdeal.main_arg4))

def Claim : Prop :=
  ∃ (hFfn : Cert.Ffn.Facts) (hFfnIdeal : Cert.FfnIdeal.Facts) (hFfnRefIdeal : Cert.FfnRefIdeal.Facts) (hMixer : Cert.Mixer.Facts) (hMixerIdeal : Cert.MixerIdeal.Facts) (hMixerRefIdeal : Cert.MixerRefIdeal.Facts) (hProj : Cert.Proj.Facts) (hProjIdeal : Cert.ProjIdeal.Facts) (hProjRefIdeal : Cert.ProjRefIdeal.Facts) (hAda : Cert.Ada.Facts) (hAdaIdeal : Cert.AdaIdeal.Facts) (hAdaRefIdeal : Cert.AdaRefIdeal.Facts) (hFourier : Cert.Fourier.Facts) (hFourierIdeal : Cert.FourierIdeal.Facts) (hFourierRefIdeal : Cert.FourierRefIdeal.Facts) (hPre_fourier_tables : Cert.Pre_fourier_tables.Facts),
    quiescent_Ffn (hFfn := hFfn)
    ∧ quiescent_FfnIdeal (hFfnIdeal := hFfnIdeal)
    ∧ quiescent_FfnRefIdeal (hFfnRefIdeal := hFfnRefIdeal)
    ∧ quiescent_Mixer (hMixer := hMixer)
    ∧ quiescent_MixerIdeal (hMixerIdeal := hMixerIdeal)
    ∧ quiescent_MixerRefIdeal (hMixerRefIdeal := hMixerRefIdeal)
    ∧ quiescent_Proj (hProj := hProj)
    ∧ quiescent_ProjIdeal (hProjIdeal := hProjIdeal)
    ∧ quiescent_ProjRefIdeal (hProjRefIdeal := hProjRefIdeal)
    ∧ quiescent_Ada (hAda := hAda)
    ∧ quiescent_AdaIdeal (hAdaIdeal := hAdaIdeal)
    ∧ quiescent_AdaRefIdeal (hAdaRefIdeal := hAdaRefIdeal)
    ∧ quiescent_Fourier (hFourier := hFourier)
    ∧ quiescent_FourierIdeal (hFourierIdeal := hFourierIdeal)
    ∧ quiescent_FourierIdeal_pre_fourier_tables (hFourierIdeal := hFourierIdeal) (hPre_fourier_tables := hPre_fourier_tables)
    ∧ quiescent_FourierRefIdeal (hFourierRefIdeal := hFourierRefIdeal)
    ∧ quiescent_FourierRefIdeal_pre_fourier_tables (hFourierRefIdeal := hFourierRefIdeal) (hPre_fourier_tables := hPre_fourier_tables)
    ∧ preserves_Ffn_FfnIdeal
    ∧ algebraic_FfnIdeal_FfnRefIdeal (hFfnIdeal := hFfnIdeal) (hFfnRefIdeal := hFfnRefIdeal)
    ∧ preserves_Mixer_MixerIdeal
    ∧ algebraic_MixerIdeal_MixerRefIdeal (hMixerIdeal := hMixerIdeal) (hMixerRefIdeal := hMixerRefIdeal)
    ∧ preserves_Proj_ProjIdeal
    ∧ algebraic_ProjIdeal_ProjRefIdeal (hProjIdeal := hProjIdeal) (hProjRefIdeal := hProjRefIdeal)
    ∧ preserves_Ada_AdaIdeal
    ∧ algebraic_AdaIdeal_AdaRefIdeal (hAdaIdeal := hAdaIdeal) (hAdaRefIdeal := hAdaRefIdeal)
    ∧ preserves_Fourier_FourierIdeal
    ∧ algebraic_FourierIdeal_FourierRefIdeal_pre_fourier_tables (hFourierIdeal := hFourierIdeal) (hFourierRefIdeal := hFourierRefIdeal) (hPre_fourier_tables := hPre_fourier_tables)
-- ==== Pre_fourier_tables.lean ====
abbrev S8x4096x512 : Shape := ⟨3, ![8, 4096, 512]⟩
abbrev S128x128 : Shape := ⟨2, ![128, 128]⟩
abbrev S4096x4096 : Shape := ⟨2, ![4096, 4096]⟩
abbrev S_ : Shape := ⟨0, ![]⟩
abbrev S1024x3072 : Shape := ⟨2, ![1024, 3072]⟩

class Facts : Prop where
  bitsLt_bf16_f32 : FTy.bits .bf16 < FTy.bits .f32
  bcast_S_S8x4096x512 : S_.BroadcastsInDim S8x4096x512 (![] : Fin 0 → Fin S8x4096x512.rank)
  bcast_S_S128x128 : S_.BroadcastsInDim S128x128 (![] : Fin 0 → Fin S128x128.rank)
  bcast_S_S4096x4096 : S_.BroadcastsInDim S4096x4096 (![] : Fin 0 → Fin S4096x4096.rank)
  slicesBy_S4096x4096_S1024x3072_0s4_1024s1 : S4096x4096.SlicesBy (![0, 1024] : Fin 2 → Nat) ![4, 1] S1024x3072
  slicesBy_S4096x4096_S1024x3072_0s4_0s1 : S4096x4096.SlicesBy (![0, 0] : Fin 2 → Nat) ![4, 1] S1024x3072
  slicesBy_S4096x4096_S1024x3072_1s4_1024s1 : S4096x4096.SlicesBy (![1, 1024] : Fin 2 → Nat) ![4, 1] S1024x3072
  slicesBy_S4096x4096_S1024x3072_1s4_0s1 : S4096x4096.SlicesBy (![1, 0] : Fin 2 → Nat) ![4, 1] S1024x3072
  slicesBy_S4096x4096_S1024x3072_2s4_1024s1 : S4096x4096.SlicesBy (![2, 1024] : Fin 2 → Nat) ![4, 1] S1024x3072
  slicesBy_S4096x4096_S1024x3072_2s4_0s1 : S4096x4096.SlicesBy (![2, 0] : Fin 2 → Nat) ![4, 1] S1024x3072
  slicesBy_S4096x4096_S1024x3072_3s4_1024s1 : S4096x4096.SlicesBy (![3, 1024] : Fin 2 → Nat) ![4, 1] S1024x3072
  slicesBy_S4096x4096_S1024x3072_3s4_0s1 : S4096x4096.SlicesBy (![3, 0] : Fin 2 → Nat) ![4, 1] S1024x3072

variable [Facts]

def fn_part2 {F : FTy → Type} [FloatOps F] (main_arg3 : FVec F S4096x4096 .bf16) (main_arg4 : FVec F S4096x4096 .bf16) (main_v3 : IVec S8x4096x512 1) (main_v7 : IVec S128x128 1) (main_v11 : IVec S128x128 1) (main_v15 : IVec S4096x4096 1) (main_v19 : IVec S4096x4096 1) (main_v22 : IVec S1024x3072 1) (main_v25 : IVec S1024x3072 1) (main_v29 : IVec S1024x3072 1) (main_v32 : IVec S1024x3072 1) (main_v36 : IVec S1024x3072 1) (main_v40 : IVec S1024x3072 1) (main_v41 : FVec F S1024x3072 .bf16) (main_v42 : FVec F S1024x3072 .bf16) : IVec S8x4096x512 1 × IVec S128x128 1 × IVec S128x128 1 × IVec S4096x4096 1 × IVec S4096x4096 1 × IVec S1024x3072 1 × IVec S1024x3072 1 × IVec S1024x3072 1 × IVec S1024x3072 1 × IVec S1024x3072 1 × IVec S1024x3072 1 × IVec S1024x3072 1 × IVec S1024x3072 1 :=
  let main_v43 : IVec S1024x3072 1 := cmpf .oeq main_v41 main_v42
  let main_v44 : FVec F S1024x3072 .bf16 := (Host.slice S1024x3072 ![3, 1024] ![4, 1] · slicesBy_S4096x4096_S1024x3072_3s4_1024s1) main_arg4
  let main_v45 : FVec F S1024x3072 .bf16 := (Host.slice S1024x3072 ![3, 0] ![4, 1] · slicesBy_S4096x4096_S1024x3072_3s4_0s1) main_arg3
  let main_v46 : FVec F S1024x3072 .bf16 := Host.negf main_v45
  let main_v47 : IVec S1024x3072 1 := cmpf .oeq main_v44 main_v46
  (main_v3, main_v7, main_v11, main_v15, main_v19, main_v22, main_v25, main_v29, main_v32, main_v36, main_v40, main_v43, main_v47)

def fn_part1 {F : FTy → Type} [FloatOps F] (main_arg3 : FVec F S4096x4096 .bf16) (main_arg4 : FVec F S4096x4096 .bf16) (main_v3 : IVec S8x4096x512 1) (main_v7 : IVec S128x128 1) (main_v11 : IVec S128x128 1) (main_v15 : IVec S4096x4096 1) (main_v17 : FVec F S4096x4096 .f32) (main_v18 : FVec F S4096x4096 .f32) : IVec S8x4096x512 1 × IVec S128x128 1 × IVec S128x128 1 × IVec S4096x4096 1 × IVec S4096x4096 1 × IVec S1024x3072 1 × IVec S1024x3072 1 × IVec S1024x3072 1 × IVec S1024x3072 1 × IVec S1024x3072 1 × IVec S1024x3072 1 × IVec S1024x3072 1 × IVec S1024x3072 1 :=
  let main_v19 : IVec S4096x4096 1 := cmpf .olt main_v17 main_v18
  let main_v20 : FVec F S1024x3072 .bf16 := (Host.slice S1024x3072 ![0, 1024] ![4, 1] · slicesBy_S4096x4096_S1024x3072_0s4_1024s1) main_arg3
  let main_v21 : FVec F S1024x3072 .bf16 := (Host.slice S1024x3072 ![0, 0] ![4, 1] · slicesBy_S4096x4096_S1024x3072_0s4_0s1) main_arg3
  let main_v22 : IVec S1024x3072 1 := cmpf .oeq main_v20 main_v21
  let main_v23 : FVec F S1024x3072 .bf16 := (Host.slice S1024x3072 ![0, 1024] ![4, 1] · slicesBy_S4096x4096_S1024x3072_0s4_1024s1) main_arg4
  let main_v24 : FVec F S1024x3072 .bf16 := (Host.slice S1024x3072 ![0, 0] ![4, 1] · slicesBy_S4096x4096_S1024x3072_0s4_0s1) main_arg4
  let main_v25 : IVec S1024x3072 1 := cmpf .oeq main_v23 main_v24
  let main_v26 : FVec F S1024x3072 .bf16 := (Host.slice S1024x3072 ![1, 1024] ![4, 1] · slicesBy_S4096x4096_S1024x3072_1s4_1024s1) main_arg3
  let main_v27 : FVec F S1024x3072 .bf16 := (Host.slice S1024x3072 ![1, 0] ![4, 1] · slicesBy_S4096x4096_S1024x3072_1s4_0s1) main_arg4
  let main_v28 : FVec F S1024x3072 .bf16 := Host.negf main_v27
  let main_v29 : IVec S1024x3072 1 := cmpf .oeq main_v26 main_v28
  let main_v30 : FVec F S1024x3072 .bf16 := (Host.slice S1024x3072 ![1, 1024] ![4, 1] · slicesBy_S4096x4096_S1024x3072_1s4_1024s1) main_arg4
  let main_v31 : FVec F S1024x3072 .bf16 := (Host.slice S1024x3072 ![1, 0] ![4, 1] · slicesBy_S4096x4096_S1024x3072_1s4_0s1) main_arg3
  let main_v32 : IVec S1024x3072 1 := cmpf .oeq main_v30 main_v31
  let main_v33 : FVec F S1024x3072 .bf16 := (Host.slice S1024x3072 ![2, 1024] ![4, 1] · slicesBy_S4096x4096_S1024x3072_2s4_1024s1) main_arg3
  let main_v34 : FVec F S1024x3072 .bf16 := (Host.slice S1024x3072 ![2, 0] ![4, 1] · slicesBy_S4096x4096_S1024x3072_2s4_0s1) main_arg3
  let main_v35 : FVec F S1024x3072 .bf16 := Host.negf main_v34
  let main_v36 : IVec S1024x3072 1 := cmpf .oeq main_v33 main_v35
  let main_v37 : FVec F S1024x3072 .bf16 := (Host.slice S1024x3072 ![2, 1024] ![4, 1] · slicesBy_S4096x4096_S1024x3072_2s4_1024s1) main_arg4
  let main_v38 : FVec F S1024x3072 .bf16 := (Host.slice S1024x3072 ![2, 0] ![4, 1] · slicesBy_S4096x4096_S1024x3072_2s4_0s1) main_arg4
  let main_v39 : FVec F S1024x3072 .bf16 := Host.negf main_v38
  let main_v40 : IVec S1024x3072 1 := cmpf .oeq main_v37 main_v39
  let main_v41 : FVec F S1024x3072 .bf16 := (Host.slice S1024x3072 ![3, 1024] ![4, 1] · slicesBy_S4096x4096_S1024x3072_3s4_1024s1) main_arg3
  let main_v42 : FVec F S1024x3072 .bf16 := (Host.slice S1024x3072 ![3, 0] ![4, 1] · slicesBy_S4096x4096_S1024x3072_3s4_0s1) main_arg4
  fn_part2 (F := F) main_arg3 main_arg4 main_v3 main_v7 main_v11 main_v15 main_v19 main_v22 main_v25 main_v29 main_v32 main_v36 main_v40 main_v41 main_v42

def fn {F : FTy → Type} [FloatOps F] (main_arg0 : FVec F S8x4096x512 .bf16) (main_arg1 : FVec F S128x128 .bf16) (main_arg2 : FVec F S128x128 .bf16) (main_arg3 : FVec F S4096x4096 .bf16) (main_arg4 : FVec F S4096x4096 .bf16) : IVec S8x4096x512 1 × IVec S128x128 1 × IVec S128x128 1 × IVec S4096x4096 1 × IVec S4096x4096 1 × IVec S1024x3072 1 × IVec S1024x3072 1 × IVec S1024x3072 1 × IVec S1024x3072 1 × IVec S1024x3072 1 × IVec S1024x3072 1 × IVec S1024x3072 1 × IVec S1024x3072 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_v4 : FVec F S128x128 .f32 := (extf .f32 · bitsLt_bf16_f32) main_arg1
  let main_v5 : FVec F S128x128 .f32 := Host.absf main_v4
  let main_cst_0 : FVec F S_ .f32 := constant S_ .f32 0x7F800000#32
  let main_v6 : FVec F S128x128 .f32 := broadcastInDim S128x128 ![] bcast_S_S128x128 main_cst_0
  let main_v7 : IVec S128x128 1 := cmpf .olt main_v5 main_v6
  let main_v8 : FVec F S128x128 .f32 := (extf .f32 · bitsLt_bf16_f32) main_arg2
  let main_v9 : FVec F S128x128 .f32 := Host.absf main_v8
  let main_cst_1 : FVec F S_ .f32 := constant S_ .f32 0x7F800000#32
  let main_v10 : FVec F S128x128 .f32 := broadcastInDim S128x128 ![] bcast_S_S128x128 main_cst_1
  let main_v11 : IVec S128x128 1 := cmpf .olt main_v9 main_v10
  let main_v12 : FVec F S4096x4096 .f32 := (extf .f32 · bitsLt_bf16_f32) main_arg3
  let main_v13 : FVec F S4096x4096 .f32 := Host.absf main_v12
  let main_cst_2 : FVec F S_ .f32 := constant S_ .f32 0x7F800000#32
  let main_v14 : FVec F S4096x4096 .f32 := broadcastInDim S4096x4096 ![] bcast_S_S4096x4096 main_cst_2
  let main_v15 : IVec S4096x4096 1 := cmpf .olt main_v13 main_v14
  let main_v16 : FVec F S4096x4096 .f32 := (extf .f32 · bitsLt_bf16_f32) main_arg4
  let main_v17 : FVec F S4096x4096 .f32 := Host.absf main_v16
  let main_cst_3 : FVec F S_ .f32 := constant S_ .f32 0x7F800000#32
  let main_v18 : FVec F S4096x4096 .f32 := broadcastInDim S4096x4096 ![] bcast_S_S4096x4096 main_cst_3
  fn_part1 (F := F) main_arg3 main_arg4 main_v3 main_v7 main_v11 main_v15 main_v17 main_v18
-- ==== Ffn.lean ====
abbrev S8x16x512x1024 : Shape := ⟨4, ![8, 16, 512, 1024]⟩
abbrev S8x16x512 : Shape := ⟨3, ![8, 16, 512]⟩
abbrev S16x1024x2048 : Shape := ⟨3, ![16, 1024, 2048]⟩
abbrev S16x2048x1024 : Shape := ⟨3, ![16, 2048, 1024]⟩
abbrev S8x16x512x1 : Shape := ⟨4, ![8, 16, 512, 1]⟩
abbrev S8x16x512x128 : Shape := ⟨4, ![8, 16, 512, 128]⟩
abbrev S4x1x512x1024 : Shape := ⟨4, ![4, 1, 512, 1024]⟩
abbrev S1x1024x512 : Shape := ⟨3, ![1, 1024, 512]⟩
abbrev S1x512x1024 : Shape := ⟨3, ![1, 512, 1024]⟩
abbrev S4x1x512x128 : Shape := ⟨4, ![4, 1, 512, 128]⟩
abbrev S4x512x1024 : Shape := ⟨3, ![4, 512, 1024]⟩
abbrev S1024x512 : Shape := ⟨2, ![1024, 512]⟩
abbrev S512x1024 : Shape := ⟨2, ![512, 1024]⟩
abbrev S1x1x512x1024 : Shape := ⟨4, ![1, 1, 512, 1024]⟩
abbrev S512x512 : Shape := ⟨2, ![512, 512]⟩
abbrev S1x1x512x128 : Shape := ⟨4, ![1, 1, 512, 128]⟩
abbrev S512x128 : Shape := ⟨2, ![512, 128]⟩

abbrev nBuf : Space → Nat
  | .hbm => 8
  | .vmem => 13
  | .smem => 0
  | _ => 0

abbrev bufTy : (tb : Table) → Fin (tcTables nBuf tb) → BufTy
  | .hbm, ⟨0, _⟩ => ⟨S8x16x512x1024, .bf16⟩
  | .hbm, ⟨1, _⟩ => ⟨S8x16x512, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S8x16x512x1, .f32⟩
  | .hbm, ⟨6, _⟩ => ⟨S8x16x512x128, .f32⟩
  | .hbm, ⟨7, _⟩ => ⟨S8x16x512x1024, .bf16⟩
  | .local _ .vmem, ⟨0, _⟩ => ⟨S4x1x512x1024, .bf16⟩
  | .local _ .vmem, ⟨1, _⟩ => ⟨S4x1x512x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S4x1x512x128, .f32⟩
  | .local _ .vmem, ⟨9, _⟩ => ⟨S4x1x512x128, .f32⟩
  | .local _ .vmem, ⟨10, _⟩ => ⟨S4x1x512x1024, .bf16⟩
  | .local _ .vmem, ⟨11, _⟩ => ⟨S4x1x512x1024, .bf16⟩
  | .local _ .vmem, ⟨12, _⟩ => ⟨S4x512x1024, .f32⟩
  | _, _ => ⟨S8x16x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 4], ![false, false, false]⟩

def k0_cond3 (i : grid0.Coords) : BitVec 1 :=
  let arg2 : BitVec 32 := BitVec.ofNat 32 (i 2).val
  let c3_i32_11 : BitVec 32 := 3#32
  let v17 : BitVec 1 := Scalar.cmpi .eq arg2 c3_i32_11
  let v18 : BitVec 32 := Scalar.extui v17
  let c0_i32_12 : BitVec 32 := 0#32
  let v19 : BitVec 1 := Scalar.cmpi .ne v18 c0_i32_12
  v19

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S4x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S4x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnRefIdeal.lean ====
abbrev S8x16x512x1024 : Shape := ⟨4, ![8, 16, 512, 1024]⟩
abbrev S8x16x512 : Shape := ⟨3, ![8, 16, 512]⟩
abbrev S16x1024x2048 : Shape := ⟨3, ![16, 1024, 2048]⟩
abbrev S16x2048x1024 : Shape := ⟨3, ![16, 2048, 1024]⟩
abbrev S16x2048x8x512 : Shape := ⟨4, ![16, 2048, 8, 512]⟩
abbrev S8x16x512x2048 : Shape := ⟨4, ![8, 16, 512, 2048]⟩
abbrev S_ : Shape := ⟨0, ![]⟩
abbrev S16x1024x8x512 : Shape := ⟨4, ![16, 1024, 8, 512]⟩
abbrev S8x16x512x1 : Shape := ⟨4, ![8, 16, 512, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x16x512x1024, .bf16⟩
  | .hbm, ⟨1, _⟩ => ⟨S8x16x512, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S8x16x512x1024, .f32⟩
  | .hbm, ⟨6, _⟩ => ⟨S16x2048x8x512, .f32⟩
  | .hbm, ⟨7, _⟩ => ⟨S8x16x512x2048, .f32⟩
  | .hbm, ⟨8, _⟩ => ⟨S16x2048x8x512, .f32⟩
  | .hbm, ⟨9, _⟩ => ⟨S8x16x512x2048, .f32⟩
  | .hbm, ⟨10, _⟩ => ⟨S8x16x512x2048, .f32⟩
  | .hbm, ⟨11, _⟩ => ⟨S8x16x512x2048, .f32⟩
  | .hbm, ⟨12, _⟩ => ⟨S_, .f32⟩
  | .hbm, ⟨13, _⟩ => ⟨S8x16x512x2048, .f32⟩
  | .hbm, ⟨14, _⟩ => ⟨S8x16x512x2048, .f32⟩
  | .hbm, ⟨15, _⟩ => ⟨S_, .f32⟩
  | .hbm, ⟨16, _⟩ => ⟨S8x16x512x2048, .f32⟩
  | .hbm, ⟨17, _⟩ => ⟨S8x16x512x2048, .f32⟩
  | .hbm, ⟨18, _⟩ => ⟨S8x16x512x2048, .f32⟩
  | .hbm, ⟨19, _⟩ => ⟨S8x16x512x2048, .f32⟩
  | .hbm, ⟨20, _⟩ => ⟨S16x1024x8x512, .f32⟩
  | .hbm, ⟨21, _⟩ => ⟨S8x16x512x1024, .f32⟩
  | .hbm, ⟨22, _⟩ => ⟨S8x16x512x1, .f32⟩
  | .hbm, ⟨23, _⟩ => ⟨S8x16x512x1024, .f32⟩
  | .hbm, ⟨24, _⟩ => ⟨S8x16x512x1024, .f32⟩
  | .hbm, ⟨25, _⟩ => ⟨S8x16x512x1024, .bf16⟩
  | _, _ => ⟨S8x16x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]
-- ==== Mixer.lean ====
abbrev S8x4096x1024 : Shape := ⟨3, ![8, 4096, 1024]⟩
abbrev S8x6x1024 : Shape := ⟨3, ![8, 6, 1024]⟩
abbrev S1024 : Shape := ⟨1, ![1024]⟩
abbrev S1024x3584 : Shape := ⟨2, ![1024, 3584]⟩
abbrev S3584 : Shape := ⟨1, ![3584]⟩
abbrev S8x4096x512 : Shape := ⟨3, ![8, 4096, 512]⟩
abbrev S31x512 : Shape := ⟨2, ![31, 512]⟩
abbrev S512 : Shape := ⟨1, ![512]⟩
abbrev S512x1024 : Shape := ⟨2, ![512, 1024]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S1 : Shape := ⟨1, ![1]⟩
abbrev S1x1024 : Shape := ⟨2, ![1, 1024]⟩
abbrev S1024x2048 : Shape := ⟨2, ![1024, 2048]⟩
abbrev S2048 : Shape := ⟨1, ![2048]⟩
abbrev S1x2048 : Shape := ⟨2, ![1, 2048]⟩
abbrev S1x512 : Shape := ⟨2, ![1, 512]⟩
abbrev S8x4096x128 : Shape := ⟨3, ![8, 4096, 128]⟩
abbrev S1x512x1024 : Shape := ⟨3, ![1, 512, 1024]⟩
abbrev S1x6x1024 : Shape := ⟨3, ![1, 6, 1024]⟩
abbrev S1x4096x512 : Shape := ⟨3, ![1, 4096, 512]⟩
abbrev S1x512x512 : Shape := ⟨3, ![1, 512, 512]⟩
abbrev S1x512x128 : Shape := ⟨3, ![1, 512, 128]⟩
abbrev S544x512 : Shape := ⟨2, ![544, 512]⟩
abbrev S6x1024 : Shape := ⟨2, ![6, 1024]⟩
abbrev S512x512 : Shape := ⟨2, ![512, 512]⟩
abbrev S1x16x512 : Shape := ⟨3, ![1, 16, 512]⟩
abbrev S16x512 : Shape := ⟨2, ![16, 512]⟩
abbrev S512x1 : Shape := ⟨2, ![512, 1]⟩
abbrev S520x512 : Shape := ⟨2, ![520, 512]⟩
abbrev S1024x512 : Shape := ⟨2, ![1024, 512]⟩
abbrev S512x128 : Shape := ⟨2, ![512, 128]⟩

abbrev nBuf : Space → Nat
  | .hbm => 43
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x3584, .f32⟩
  | .hbm, ⟨4, _⟩ => ⟨S3584, .f32⟩
  | .hbm, ⟨5, _⟩ => ⟨S8x4096x512, .bf16⟩
  | .hbm, ⟨6, _⟩ => ⟨S31x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x1024, .f32⟩
  | .hbm, ⟨11, _⟩ => ⟨S1024, .f32⟩
  | .hbm, ⟨12, _⟩ => ⟨S8x4096x512, .bf16⟩
  | .hbm, ⟨13, _⟩ => ⟨S512x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024, .f32⟩
  | .hbm, ⟨18, _⟩ => ⟨S1024x16, .f32⟩
  | .hbm, ⟨19, _⟩ => ⟨S_, .bf16⟩
  | .hbm, ⟨20, _⟩ => ⟨S1024x128, .bf16⟩
  | .hbm, ⟨21, _⟩ => ⟨S1024x16, .bf16⟩
  | .hbm, ⟨22, _⟩ => ⟨S_, .i32⟩
  | .hbm, ⟨23, _⟩ => ⟨S1, .i32⟩
  | .hbm, ⟨24, _⟩ => ⟨S1024x128, .bf16⟩
  | .hbm, ⟨25, _⟩ => ⟨S1x1024, .f32⟩
  | .hbm, ⟨26, _⟩ => ⟨S1024x2048, .f32⟩
  | .hbm, ⟨27, _⟩ => ⟨S1024x2048, .bf16⟩
  | .hbm, ⟨28, _⟩ => ⟨S2048, .f32⟩
  | .hbm, ⟨29, _⟩ => ⟨S1x2048, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S512x1024, .bf16⟩
  | .hbm, ⟨34, _⟩ => ⟨S1x1024, .f32⟩
  | .hbm, ⟨35, _⟩ => ⟨S512x1024, .bf16⟩
  | .hbm, ⟨36, _⟩ => ⟨S1x1024, .f32⟩
  | .hbm, ⟨37, _⟩ => ⟨S1024x1024, .bf16⟩
  | .hbm, ⟨38, _⟩ => ⟨S1x1024, .f32⟩
  | .hbm, ⟨39, _⟩ => ⟨S1x1024, .f32⟩
  | .hbm, ⟨40, _⟩ => ⟨S8x4096x1024, .f32⟩
  | .hbm, ⟨41, _⟩ => ⟨S8x4096x1024, .bf16⟩
  | .hbm, ⟨42, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S1x2048, .f32⟩
  | .local _ .vmem, ⟨7, _⟩ => ⟨S1x4096x512, .bf16⟩
  | .local _ .vmem, ⟨8, _⟩ => ⟨S1x4096x512, .bf16⟩
  | .local _ .vmem, ⟨9, _⟩ => ⟨S31x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x1024, .bf16⟩
  | .local _ .vmem, ⟨14, _⟩ => ⟨S1x1024, .f32⟩
  | .local _ .vmem, ⟨15, _⟩ => ⟨S1x512x512, .bf16⟩
  | .local _ .vmem, ⟨16, _⟩ => ⟨S1x512x512, .bf16⟩
  | .local _ .vmem, ⟨17, _⟩ => ⟨S512x1024, .bf16⟩
  | .local _ .vmem, ⟨18, _⟩ => ⟨S1x1024, .f32⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1024x128, .bf16⟩
  | .local _ .vmem, ⟨23, _⟩ => ⟨S1x512x1024, .f32⟩
  | .local _ .vmem, ⟨24, _⟩ => ⟨S1x512x1024, .f32⟩
  | .local _ .vmem, ⟨25, _⟩ => ⟨S1x512x1024, .bf16⟩
  | .local _ .vmem, ⟨26, _⟩ => ⟨S1x512x1024, .bf16⟩
  | .local _ .vmem, ⟨27, _⟩ => ⟨S1x512x128, .f32⟩
  | .local _ .vmem, ⟨28, _⟩ => ⟨S1x512x128, .f32⟩
  | .local _ .vmem, ⟨29, _⟩ => ⟨S544x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19_0 : Ref sig .tc := ⟨.hbm, 40, rfl⟩
abbrev main_v19_1 : Ref sig .tc := ⟨.hbm, 41, rfl⟩
abbrev main_v19_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0_2 : Index := 0#32
  let arg1 : BitVec 32 := BitVec.ofNat 32 (i 1).val
  let c512_i32 : BitVec 32 := 512#32
  let v0 : BitVec 32 := Scalar.muli arg1 c512_i32
  let v1 : BitVec 32 := v0
  let v4 : Index := Scalar.indexCast v1
  let c0_3 : Index := 0#32
  ![0, v4.toNat, 0]
def k0_mult2 (i : grid0.Coords) : BitVec 32 :=
  let arg1 : BitVec 32 := BitVec.ofNat 32 (i 1).val
  let c512_i32 : BitVec 32 := 512#32
  let v0 : BitVec 32 := Scalar.muli arg1 c512_i32
  let v1 : BitVec 32 := v0
  let c16_i32 : BitVec 32 := 16#32
  let v11 : BitVec 32 := Scalar.subi v1 c16_i32
  let c0_i32 : BitVec 32 := 0#32
  let v12 : BitVec 32 := Scalar.maxsi v11 c0_i32
  v12
def k0_off2 (i : grid0.Coords) : Fin 3 → Nat :=
  let c0_6 : Index := 0#32
  let arg1 : BitVec 32 := BitVec.ofNat 32 (i 1).val
  let c512_i32 : BitVec 32 := 512#32
  let v0 : BitVec 32 := Scalar.muli arg1 c512_i32
  let v1 : BitVec 32 := v0
  let c16_i32 : BitVec 32 := 16#32
  let v11 : BitVec 32 := Scalar.subi v1 c16_i32
  let c0_i32 : BitVec 32 := 0#32
  let v12 : BitVec 32 := Scalar.maxsi v11 c0_i32
  let v13 : BitVec 32 := v12
  let v15 : Index := Scalar.indexCast v13
  let c0_7 : Index := 0#32
  ![0, v15.toNat, 0]
def k0_mult3 (i : grid0.Coords) : BitVec 32 :=
  let arg1 : BitVec 32 := BitVec.ofNat 32 (i 1).val
  let c512_i32 : BitVec 32 := 512#32
  let v0 : BitVec 32 := Scalar.muli arg1 c512_i32
  let v1 : BitVec 32 := v0
  let c512_i32_10 : BitVec 32 := 512#32
  let v24 : BitVec 32 := Scalar.addi v1 c512_i32_10
  let c4080_i32 : BitVec 32 := 4080#32
  let v25 : BitVec 32 := Scalar.minsi v24 c4080_i32
  v25
def k0_off3 (i : grid0.Coords) : Fin 3 → Nat :=
  let c0_11 : Index := 0#32
  let arg1 : BitVec 32 := BitVec.ofNat 32 (i 1).val
  let c512_i32 : BitVec 32 := 512#32
  let v0 : BitVec 32 := Scalar.muli arg1 c512_i32
  let v1 : BitVec 32 := v0
  let c512_i32_10 : BitVec 32 := 512#32
  let v24 : BitVec 32 := Scalar.addi v1 c512_i32_10
  let c4080_i32 : BitVec 32 := 4080#32
  let v25 : BitVec 32 := Scalar.minsi v24 c4080_i32
  let v26 : BitVec 32 := v25
  let v28 : Index := Scalar.indexCast v26
  let c0_12 : Index := 0#32
  ![0, v28.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== MixerRefIdeal.lean ====
abbrev S8x4096x1024 : Shape := ⟨3, ![8, 4096, 1024]⟩
abbrev S8x6x1024 : Shape := ⟨3, ![8, 6, 1024]⟩
abbrev S1024 : Shape := ⟨1, ![1024]⟩
abbrev S1024x3584 : Shape := ⟨2, ![1024, 3584]⟩
abbrev S3584 : Shape := ⟨1, ![3584]⟩
abbrev S8x4096x512 : Shape := ⟨3, ![8, 4096, 512]⟩
abbrev S31x512 : Shape := ⟨2, ![31, 512]⟩
abbrev S512 : Shape := ⟨1, ![512]⟩
abbrev S512x1024 : Shape := ⟨2, ![512, 1024]⟩
abbrev S1024x1024 : Shape := ⟨2, ![1024, 1024]⟩
abbrev S1024x16 : Shape := ⟨2, ![1024, 16]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4126x512 : Shape := ⟨3, ![8, 4126, 512]⟩
abbrev S1x512 : Shape := ⟨2, ![1, 512]⟩
abbrev S1x1x512 : Shape := ⟨3, ![1, 1, 512]⟩
abbrev S8x4096x16 : Shape := ⟨3, ![8, 4096, 16]⟩
abbrev S8x4096x128 : Shape := ⟨3, ![8, 4096, 128]⟩

abbrev nBuf : Space → Nat
  | .hbm => 394
  | .vmem => 0
  | .smem => 0
  | _ => 0

abbrev hbmTy0_0 (i : Nat) : BufTy := match i % 128 with
  | 0 => ⟨S8x4096x1024, .f32⟩
  | 1 => ⟨S8x6x1024, .f32⟩
  | 2 => ⟨S1024, .f32⟩
  | 3 => ⟨S1024x3584, .f32⟩
  | 4 => ⟨S3584, .f32⟩
  | 5 => ⟨S8x4096x512, .bf16⟩
  | 6 => ⟨S31x512, .f32⟩
  | 7 => ⟨S512, .f32⟩
  | 8 => ⟨S512, .f32⟩
  | 9 => ⟨S512, .f32⟩
  | 10 => ⟨S512x1024, .f32⟩
  | 11 => ⟨S1024, .f32⟩
  | 12 => ⟨S8x4096x512, .bf16⟩
  | 13 => ⟨S512x1024, .f32⟩
  | 14 => ⟨S1024, .f32⟩
  | 15 => ⟨S1024x1024, .f32⟩
  | 16 => ⟨S1024, .f32⟩
  | 17 => ⟨S1024, .f32⟩
  | 18 => ⟨S1024x16, .f32⟩
  | 19 => ⟨S8x1x1024, .f32⟩
  | 20 => ⟨S8x1024, .f32⟩
  | 21 => ⟨S8x1x1024, .f32⟩
  | 22 => ⟨S8x1024, .f32⟩
  | 23 => ⟨S8x1x1024, .f32⟩
  | 24 => ⟨S8x1024, .f32⟩
  | 25 => ⟨S8x1x1024, .f32⟩
  | 26 => ⟨S8x1024, .f32⟩
  | 27 => ⟨S8x1x1024, .f32⟩
  | 28 => ⟨S8x1024, .f32⟩
  | 29 => ⟨S8x4096x1024, .f32⟩
  | 30 => ⟨S_, .f32⟩
  | 31 => ⟨S8x4096, .f32⟩
  | 32 => ⟨S8x4096x1, .f32⟩
  | 33 => ⟨S_, .f32⟩
  | 34 => ⟨S8x4096x1, .f32⟩
  | 35 => ⟨S8x4096x1, .f32⟩
  | 36 => ⟨S_, .f32⟩
  | 37 => ⟨S8x4096x1, .f32⟩
  | 38 => ⟨S8x4096x1, .f32⟩
  | 39 => ⟨S8x4096x1, .f32⟩
  | 40 => ⟨S8x4096x1024, .f32⟩
  | 41 => ⟨S8x4096x1024, .f32⟩
  | 42 => ⟨S1x1x1024, .f32⟩
  | 43 => ⟨S8x4096x1024, .f32⟩
  | 44 => ⟨S8x4096x1024, .f32⟩
  | 45 => ⟨S8x1x1024, .f32⟩
  | 46 => ⟨S_, .f32⟩
  | 47 => ⟨S8x1x1024, .f32⟩
  | 48 => ⟨S8x1x1024, .f32⟩
  | 49 => ⟨S8x4096x1024, .f32⟩
  | 50 => ⟨S8x4096x1024, .f32⟩
  | 51 => ⟨S8x1x1024, .f32⟩
  | 52 => ⟨S8x4096x1024, .f32⟩
  | 53 => ⟨S8x4096x1024, .f32⟩
  | 54 => ⟨S1024x1024, .f32⟩
  | 55 => ⟨S8x4096x1024, .f32⟩
  | 56 => ⟨S1024, .f32⟩
  | 57 => ⟨S1x1x1024, .f32⟩
  | 58 => ⟨S8x4096x1024, .f32⟩
  | 59 => ⟨S8x4096x1024, .f32⟩
  | 60 => ⟨S8x4096x1024, .f32⟩
  | 61 => ⟨S8x4096x1024, .f32⟩
  | 62 => ⟨S_, .f32⟩
  | 63 => ⟨S8x4096x1024, .f32⟩
  | 64 => ⟨S8x4096x1024, .f32⟩
  | 65 => ⟨S_, .f32⟩
  | 66 => ⟨S8x4096x1024, .f32⟩
  | 67 => ⟨S8x4096x1024, .f32⟩
  | 68 => ⟨S1024x1024, .f32⟩
  | 69 => ⟨S8x4096x1024, .f32⟩
  | 70 => ⟨S1024, .f32⟩
  | 71 => ⟨S1x1x1024, .f32⟩
  | 72 => ⟨S8x4096x1024, .f32⟩
  | 73 => ⟨S8x4096x1024, .f32⟩
  | 74 => ⟨S8x4096x1024, .f32⟩
  | 75 => ⟨S8x4096x1024, .f32⟩
  | 76 => ⟨S_, .f32⟩
  | 77 => ⟨S8x4096x1024, .f32⟩
  | 78 => ⟨S8x4096x1024, .f32⟩
  | 79 => ⟨S_, .f32⟩
  | 80 => ⟨S8x4096x1024, .f32⟩
  | 81 => ⟨S8x4096x1024, .f32⟩
  | 82 => ⟨S8x4096x512, .f32⟩
  | 83 => ⟨S_, .i32⟩
  | 84 => ⟨S_, .f32⟩
  | 85 => ⟨S8x4126x512, .f32⟩
  | 86 => ⟨S8x4096x512, .f32⟩
  | 87 => ⟨S1x512, .f32⟩
  | 88 => ⟨S512, .f32⟩
  | 89 => ⟨S1x1x512, .f32⟩
  | 90 => ⟨S8x4096x512, .f32⟩
  | 91 => ⟨S8x4096x512, .f32⟩
  | 92 => ⟨S_, .f32⟩
  | 93 => ⟨S8x4096x512, .f32⟩
  | 94 => ⟨S8x4096x512, .f32⟩
  | 95 => ⟨S8x4096x512, .f32⟩
  | 96 => ⟨S1x512, .f32⟩
  | 97 => ⟨S512, .f32⟩
  | 98 => ⟨S1x1x512, .f32⟩
  | 99 => ⟨S8x4096x512, .f32⟩
  | 100 => ⟨S8x4096x512, .f32⟩
  | 101 => ⟨S8x4096x512, .f32⟩
  | 102 => ⟨S8x4096x512, .f32⟩
  | 103 => ⟨S1x512, .f32⟩
  | 104 => ⟨S512, .f32⟩
  | 105 => ⟨S1x1x512, .f32⟩
  | 106 => ⟨S8x4096x512, .f32⟩
  | 107 => ⟨S8x4096x512, .f32⟩
  | 108 => ⟨S8x4096x512, .f32⟩
  | 109 => ⟨S8x4096x512, .f32⟩
  | 110 => ⟨S1x512, .f32⟩
  | 111 => ⟨S512, .f32⟩
  | 112 => ⟨S1x1x512, .f32⟩
  | 113 => ⟨S8x4096x512, .f32⟩
  | 114 => ⟨S8x4096x512, .f32⟩
  | 115 => ⟨S8x4096x512, .f32⟩
  | 116 => ⟨S8x4096x512, .f32⟩
  | 117 => ⟨S1x512, .f32⟩
  | 118 => ⟨S512, .f32⟩
  | 119 => ⟨S1x1x512, .f32⟩
  | 120 => ⟨S8x4096x512, .f32⟩
  | 121 => ⟨S8x4096x512, .f32⟩
  | 122 => ⟨S8x4096x512, .f32⟩
  | 123 => ⟨S8x4096x512, .f32⟩
  | 124 => ⟨S1x512, .f32⟩
  | 125 => ⟨S512, .f32⟩
  | 126 => ⟨S1x1x512, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S8x4096x512, .f32⟩
  | 3 => ⟨S1x512, .f32⟩
  | 4 => ⟨S512, .f32⟩
  | 5 => ⟨S1x1x512, .f32⟩
  | 6 => ⟨S8x4096x512, .f32⟩
  | 7 => ⟨S8x4096x512, .f32⟩
  | 8 => ⟨S8x4096x512, .f32⟩
  | 9 => ⟨S8x4096x512, .f32⟩
  | 10 => ⟨S1x512, .f32⟩
  | 11 => ⟨S512, .f32⟩
  | 12 => ⟨S1x1x512, .f32⟩
  | 13 => ⟨S8x4096x512, .f32⟩
  | 14 => ⟨S8x4096x512, .f32⟩
  | 15 => ⟨S8x4096x512, .f32⟩
  | 16 => ⟨S8x4096x512, .f32⟩
  | 17 => ⟨S1x512, .f32⟩
  | 18 => ⟨S512, .f32⟩
  | 19 => ⟨S1x1x512, .f32⟩
  | 20 => ⟨S8x4096x512, .f32⟩
  | 21 => ⟨S8x4096x512, .f32⟩
  | 22 => ⟨S8x4096x512, .f32⟩
  | 23 => ⟨S8x4096x512, .f32⟩
  | 24 => ⟨S1x512, .f32⟩
  | 25 => ⟨S512, .f32⟩
  | 26 => ⟨S1x1x512, .f32⟩
  | 27 => ⟨S8x4096x512, .f32⟩
  | 28 => ⟨S8x4096x512, .f32⟩
  | 29 => ⟨S8x4096x512, .f32⟩
  | 30 => ⟨S8x4096x512, .f32⟩
  | 31 => ⟨S1x512, .f32⟩
  | 32 => ⟨S512, .f32⟩
  | 33 => ⟨S1x1x512, .f32⟩
  | 34 => ⟨S8x4096x512, .f32⟩
  | 35 => ⟨S8x4096x512, .f32⟩
  | 36 => ⟨S8x4096x512, .f32⟩
  | 37 => ⟨S8x4096x512, .f32⟩
  | 38 => ⟨S1x512, .f32⟩
  | 39 => ⟨S512, .f32⟩
  | 40 => ⟨S1x1x512, .f32⟩
  | 41 => ⟨S8x4096x512, .f32⟩
  | 42 => ⟨S8x4096x512, .f32⟩
  | 43 => ⟨S8x4096x512, .f32⟩
  | 44 => ⟨S8x4096x512, .f32⟩
  | 45 => ⟨S1x512, .f32⟩
  | 46 => ⟨S512, .f32⟩
  | 47 => ⟨S1x1x512, .f32⟩
  | 48 => ⟨S8x4096x512, .f32⟩
  | 49 => ⟨S8x4096x512, .f32⟩
  | 50 => ⟨S8x4096x512, .f32⟩
  | 51 => ⟨S8x4096x512, .f32⟩
  | 52 => ⟨S1x512, .f32⟩
  | 53 => ⟨S512, .f32⟩
  | 54 => ⟨S1x1x512, .f32⟩
  | 55 => ⟨S8x4096x512, .f32⟩
  | 56 => ⟨S8x4096x512, .f32⟩
  | 57 => ⟨S8x4096x512, .f32⟩
  | 58 => ⟨S8x4096x512, .f32⟩
  | 59 => ⟨S1x512, .f32⟩
  | 60 => ⟨S512, .f32⟩
  | 61 => ⟨S1x1x512, .f32⟩
  | 62 => ⟨S8x4096x512, .f32⟩
  | 63 => ⟨S8x4096x512, .f32⟩
  | 64 => ⟨S8x4096x512, .f32⟩
  | 65 => ⟨S8x4096x512, .f32⟩
  | 66 => ⟨S1x512, .f32⟩
  | 67 => ⟨S512, .f32⟩
  | 68 => ⟨S1x1x512, .f32⟩
  | 69 => ⟨S8x4096x512, .f32⟩
  | 70 => ⟨S8x4096x512, .f32⟩
  | 71 => ⟨S8x4096x512, .f32⟩
  | 72 => ⟨S8x4096x512, .f32⟩
  | 73 => ⟨S1x512, .f32⟩
  | 74 => ⟨S512, .f32⟩
  | 75 => ⟨S1x1x512, .f32⟩
  | 76 => ⟨S8x4096x512, .f32⟩
  | 77 => ⟨S8x4096x512, .f32⟩
  | 78 => ⟨S8x4096x512, .f32⟩
  | 79 => ⟨S8x4096x512, .f32⟩
  | 80 => ⟨S1x512, .f32⟩
  | 81 => ⟨S512, .f32⟩
  | 82 => ⟨S1x1x512, .f32⟩
  | 83 => ⟨S8x4096x512, .f32⟩
  | 84 => ⟨S8x4096x512, .f32⟩
  | 85 => ⟨S8x4096x512, .f32⟩
  | 86 => ⟨S8x4096x512, .f32⟩
  | 87 => ⟨S1x512, .f32⟩
  | 88 => ⟨S512, .f32⟩
  | 89 => ⟨S1x1x512, .f32⟩
  | 90 => ⟨S8x4096x512, .f32⟩
  | 91 => ⟨S8x4096x512, .f32⟩
  | 92 => ⟨S8x4096x512, .f32⟩
  | 93 => ⟨S8x4096x512, .f32⟩
  | 94 => ⟨S1x512, .f32⟩
  | 95 => ⟨S512, .f32⟩
  | 96 => ⟨S1x1x512, .f32⟩
  | 97 => ⟨S8x4096x512, .f32⟩
  | 98 => ⟨S8x4096x512, .f32⟩
  | 99 => ⟨S8x4096x512, .f32⟩
  | 100 => ⟨S8x4096x512, .f32⟩
  | 101 => ⟨S1x512, .f32⟩
  | 102 => ⟨S512, .f32⟩
  | 103 => ⟨S1x1x512, .f32⟩
  | 104 => ⟨S8x4096x512, .f32⟩
  | 105 => ⟨S8x4096x512, .f32⟩
  | 106 => ⟨S8x4096x512, .f32⟩
  | 107 => ⟨S8x4096x512, .f32⟩
  | 108 => ⟨S1x512, .f32⟩
  | 109 => ⟨S512, .f32⟩
  | 110 => ⟨S1x1x512, .f32⟩
  | 111 => ⟨S8x4096x512, .f32⟩
  | 112 => ⟨S8x4096x512, .f32⟩
  | 113 => ⟨S8x4096x512, .f32⟩
  | 114 => ⟨S8x4096x512, .f32⟩
  | 115 => ⟨S1x512, .f32⟩
  | 116 => ⟨S512, .f32⟩
  | 117 => ⟨S1x1x512, .f32⟩
  | 118 => ⟨S8x4096x512, .f32⟩
  | 119 => ⟨S8x4096x512, .f32⟩
  | 120 => ⟨S8x4096x512, .f32⟩
  | 121 => ⟨S8x4096x512, .f32⟩
  | 122 => ⟨S1x512, .f32⟩
  | 123 => ⟨S512, .f32⟩
  | 124 => ⟨S1x1x512, .f32⟩
  | 125 => ⟨S8x4096x512, .f32⟩
  | 126 => ⟨S8x4096x512, .f32⟩
  | 127 => ⟨S8x4096x512, .f32⟩
  | _ => ⟨S8x4096x1024, .f32⟩

abbrev hbmTy0_2 (i : Nat) : BufTy := match i % 128 with
  | 0 => ⟨S8x4096x512, .f32⟩
  | 1 => ⟨S1x512, .f32⟩
  | 2 => ⟨S512, .f32⟩
  | 3 => ⟨S1x1x512, .f32⟩
  | 4 => ⟨S8x4096x512, .f32⟩
  | 5 => ⟨S8x4096x512, .f32⟩
  | 6 => ⟨S8x4096x512, .f32⟩
  | 7 => ⟨S8x4096x512, .f32⟩
  | 8 => ⟨S1x512, .f32⟩
  | 9 => ⟨S512, .f32⟩
  | 10 => ⟨S1x1x512, .f32⟩
  | 11 => ⟨S8x4096x512, .f32⟩
  | 12 => ⟨S8x4096x512, .f32⟩
  | 13 => ⟨S8x4096x512, .f32⟩
  | 14 => ⟨S8x4096x512, .f32⟩
  | 15 => ⟨S1x512, .f32⟩
  | 16 => ⟨S512, .f32⟩
  | 17 => ⟨S1x1x512, .f32⟩
  | 18 => ⟨S8x4096x512, .f32⟩
  | 19 => ⟨S8x4096x512, .f32⟩
  | 20 => ⟨S8x4096x512, .f32⟩
  | 21 => ⟨S8x4096x512, .f32⟩
  | 22 => ⟨S1x512, .f32⟩
  | 23 => ⟨S512, .f32⟩
  | 24 => ⟨S1x1x512, .f32⟩
  | 25 => ⟨S8x4096x512, .f32⟩
  | 26 => ⟨S8x4096x512, .f32⟩
  | 27 => ⟨S8x4096x512, .f32⟩
  | 28 => ⟨S8x4096x512, .f32⟩
  | 29 => ⟨S1x512, .f32⟩
  | 30 => ⟨S512, .f32⟩
  | 31 => ⟨S1x1x512, .f32⟩
  | 32 => ⟨S8x4096x512, .f32⟩
  | 33 => ⟨S8x4096x512, .f32⟩
  | 34 => ⟨S8x4096x512, .f32⟩
  | 35 => ⟨S8x4096x512, .f32⟩
  | 36 => ⟨S1x512, .f32⟩
  | 37 => ⟨S512, .f32⟩
  | 38 => ⟨S1x1x512, .f32⟩
  | 39 => ⟨S8x4096x512, .f32⟩
  | 40 => ⟨S8x4096x512, .f32⟩
  | 41 => ⟨S8x4096x512, .f32⟩
  | 42 => ⟨S8x4096x512, .f32⟩
  | 43 => ⟨S1x512, .f32⟩
  | 44 => ⟨S512, .f32⟩
  | 45 => ⟨S1x1x512, .f32⟩
  | 46 => ⟨S8x4096x512, .f32⟩
  | 47 => ⟨S8x4096x512, .f32⟩
  | 48 => ⟨S8x4096x512, .f32⟩
  | 49 => ⟨S1x1x512, .f32⟩
  | 50 => ⟨S8x4096x512, .f32⟩
  | 51 => ⟨S8x4096x512, .f32⟩
  | 52 => ⟨S_, .f32⟩
  | 53 => ⟨S8x4096, .f32⟩
  | 54 => ⟨S8x4096x1, .f32⟩
  | 55 => ⟨S_, .f32⟩
  | 56 => ⟨S8x4096x1, .f32⟩
  | 57 => ⟨S8x4096x1, .f32⟩
  | 58 => ⟨S8x4096x512, .f32⟩
  | 59 => ⟨S8x4096x512, .f32⟩
  | 60 => ⟨S8x4096x512, .f32⟩
  | 61 => ⟨S_, .f32⟩
  | 62 => ⟨S8x4096, .f32⟩
  | 63 => ⟨S8x4096x1, .f32⟩
  | 64 => ⟨S_, .f32⟩
  | 65 => ⟨S8x4096x1, .f32⟩
  | 66 => ⟨S8x4096x1, .f32⟩
  | 67 => ⟨S_, .f32⟩
  | 68 => ⟨S8x4096x1, .f32⟩
  | 69 => ⟨S8x4096x1, .f32⟩
  | 70 => ⟨S8x4096x1, .f32⟩
  | 71 => ⟨S8x4096x512, .f32⟩
  | 72 => ⟨S8x4096x512, .f32⟩
  | 73 => ⟨S1x1x512, .f32⟩
  | 74 => ⟨S8x4096x512, .f32⟩
  | 75 => ⟨S8x4096x512, .f32⟩
  | 76 => ⟨S1x1x512, .f32⟩
  | 77 => ⟨S8x4096x512, .f32⟩
  | 78 => ⟨S8x4096x512, .f32⟩
  | 79 => ⟨S8x4096x512, .f32⟩
  | 80 => ⟨S8x4096x512, .f32⟩
  | 81 => ⟨S_, .f32⟩
  | 82 => ⟨S8x4096x512, .f32⟩
  | 83 => ⟨S8x4096x512, .f32⟩
  | 84 => ⟨S_, .f32⟩
  | 85 => ⟨S8x4096x512, .f32⟩
  | 86 => ⟨S8x4096x512, .f32⟩
  | 87 => ⟨S8x4096x512, .f32⟩
  | 88 => ⟨S8x4096x1024, .f32⟩
  | 89 => ⟨S1x1x1024, .f32⟩
  | 90 => ⟨S8x4096x1024, .f32⟩
  | 91 => ⟨S8x4096x1024, .f32⟩
  | 92 => ⟨S8x4096x512, .f32⟩
  | 93 => ⟨S8x4096x1024, .f32⟩
  | 94 => ⟨S1x1x1024, .f32⟩
  | 95 => ⟨S8x4096x1024, .f32⟩
  | 96 => ⟨S8x4096x1024, .f32⟩
  | 97 => ⟨S8x4096x1024, .f32⟩
  | 98 => ⟨S8x4096x1024, .f32⟩
  | 99 => ⟨S8x4096x1024, .f32⟩
  | 100 => ⟨S8x1x1024, .f32⟩
  | 101 => ⟨S8x4096x1024, .f32⟩
  | 102 => ⟨S1x1x1024, .f32⟩
  | 103 => ⟨S8x4096x1024, .f32⟩
  | 104 => ⟨S8x4096x1024, .f32⟩
  | 105 => ⟨S8x4096x1024, .f32⟩
  | 106 => ⟨S8x4096x1024, .f32⟩
  | 107 => ⟨S8x4096x1024, .f32⟩
  | 108 => ⟨S8x4096x1024, .f32⟩
  | 109 => ⟨S_, .f32⟩
  | 110 => ⟨S8x4096, .f32⟩
  | 111 => ⟨S8x4096x1, .f32⟩
  | 112 => ⟨S_, .f32⟩
  | 113 => ⟨S8x4096x1, .f32⟩
  | 114 => ⟨S8x4096x1, .f32⟩
  | 115 => ⟨S_, .f32⟩
  | 116 => ⟨S8x4096x1, .f32⟩
  | 117 => ⟨S8x4096x1, .f32⟩
  | 118 => ⟨S8x4096x1, .f32⟩
  | 119 => ⟨S8x4096x1024, .f32⟩
  | 120 => ⟨S8x4096x1024, .f32⟩
  | 121 => ⟨S1x1x1024, .f32⟩
  | 122 => ⟨S8x4096x1024, .f32⟩
  | 123 => ⟨S8x4096x1024, .f32⟩
  | 124 => ⟨S8x1x1024, .f32⟩
  | 125 => ⟨S_, .f32⟩
  | 126 => ⟨S8x1x1024, .f32⟩
  | 127 => ⟨S8x1x1024, .f32⟩
  | _ => ⟨S8x4096x1024, .f32⟩

abbrev hbmTy0_3 (i : Nat) : BufTy := match i % 128 with
  | 0 => ⟨S8x4096x1024, .f32⟩
  | 1 => ⟨S8x4096x1024, .f32⟩
  | 2 => ⟨S8x1x1024, .f32⟩
  | 3 => ⟨S8x4096x1024, .f32⟩
  | 4 => ⟨S8x4096x1024, .f32⟩
  | 5 => ⟨S8x4096x16, .f32⟩
  | 6 => ⟨S8x4096x1024, .bf16⟩
  | 7 => ⟨S_, .i32⟩
  | 8 => ⟨S_, .f32⟩
  | 9 => ⟨S8x4096x128, .f32⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c : Ref sig .tc := ⟨.hbm, 83, rfl⟩
abbrev main_call0_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_7 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_v251 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_v262 : Ref sig .tc := ⟨.hbm, 292, rfl⟩
abbrev main_v263 : Ref sig .tc := ⟨.hbm, 293, rfl⟩
abbrev main_v264 : Ref sig .tc := ⟨.hbm, 294, rfl⟩
abbrev main_v265 : Ref sig .tc := ⟨.hbm, 295, rfl⟩
abbrev main_v266 : Ref sig .tc := ⟨.hbm, 296, rfl⟩
abbrev main_v267 : Ref sig .tc := ⟨.hbm, 297, rfl⟩
abbrev main_v268 : Ref sig .tc := ⟨.hbm, 298, rfl⟩
abbrev main_v269 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_cst_8 : Ref sig .tc := ⟨.hbm, 308, rfl⟩
abbrev main_v278 : Ref sig .tc := ⟨.hbm, 309, rfl⟩
abbrev main_v279 : Ref sig .tc := ⟨.hbm, 310, rfl⟩
abbrev main_cst_9 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_v283 : Ref sig .tc := ⟨.hbm, 315, rfl⟩
abbrev main_v284 : Ref sig .tc := ⟨.hbm, 316, rfl⟩
abbrev main_cst_10 : Ref sig .tc := ⟨.hbm, 317, rfl⟩
abbrev main_v285 : Ref sig .tc := ⟨.hbm, 318, rfl⟩
abbrev main_v286 : Ref sig .tc := ⟨.hbm, 319, rfl⟩
abbrev main_cst_11 : Ref sig .tc := ⟨.hbm, 320, rfl⟩
abbrev main_v287 : Ref sig .tc := ⟨.hbm, 321, rfl⟩
abbrev main_v288 : Ref sig .tc := ⟨.hbm, 322, rfl⟩
abbrev main_cst_12 : Ref sig .tc := ⟨.hbm, 323, rfl⟩
abbrev main_v289 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_v294 : Ref sig .tc := ⟨.hbm, 329, rfl⟩
abbrev main_v295 : Ref sig .tc := ⟨.hbm, 330, rfl⟩
abbrev main_v296 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_call1_v0 : Ref sig .tc := ⟨.hbm, 335, rfl⟩
abbrev main_call1_v1 : Ref sig .tc := ⟨.hbm, 336, rfl⟩
abbrev main_call1_cst : Ref sig .tc := ⟨.hbm, 337, rfl⟩
abbrev main_call1_v2 : Ref sig .tc := ⟨.hbm, 338, rfl⟩
abbrev main_call1_v3 : Ref sig .tc := ⟨.hbm, 339, rfl⟩
abbrev main_call1_cst_0 : Ref sig .tc := ⟨.hbm, 340, rfl⟩
abbrev main_call1_v4 : Ref sig .tc := ⟨.hbm, 341, rfl⟩
abbrev main_call1_v5 : Ref sig .tc := ⟨.hbm, 342, rfl⟩
abbrev main_v300 : Ref sig .tc := ⟨.hbm, 343, rfl⟩
abbrev main_v301 : Ref sig .tc := ⟨.hbm, 344, rfl⟩
abbrev main_v302 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_v315 : Ref sig .tc := ⟨.hbm, 358, rfl⟩
abbrev main_v316 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_v321 : Ref sig .tc := ⟨.hbm, 364, rfl⟩
abbrev main_cst_13 : Ref sig .tc := ⟨.hbm, 365, rfl⟩
abbrev main_v322 : Ref sig .tc := ⟨.hbm, 366, rfl⟩
abbrev main_v323 : Ref sig .tc := ⟨.hbm, 367, rfl⟩
abbrev main_cst_14 : Ref sig .tc := ⟨.hbm, 368, rfl⟩
abbrev main_v324 : Ref sig .tc := ⟨.hbm, 369, rfl⟩
abbrev main_v325 : Ref sig .tc := ⟨.hbm, 370, rfl⟩
abbrev main_cst_15 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_cst_16 : Ref sig .tc := ⟨.hbm, 381, rfl⟩
abbrev main_v335 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_c_17 : Ref sig .tc := ⟨.hbm, 391, rfl⟩
abbrev main_call2_v0 : Ref sig .tc := ⟨.hbm, 392, rfl⟩
abbrev main_v344 : Ref sig .tc := ⟨.hbm, 393, rfl⟩

abbrev nD : Nat := 1
abbrev τ : Topo := Topo.v7x

variable {F : FTy → Type} [FloatOps F]
-- ==== Proj.lean ====
abbrev S8x4096x1024 : Shape := ⟨3, ![8, 4096, 1024]⟩
abbrev S8x6x1024 : Shape := ⟨3, ![8, 6, 1024]⟩
abbrev S1024 : Shape := ⟨1, ![1024]⟩
abbrev S1024x3584 : Shape := ⟨2, ![1024, 3584]⟩
abbrev S3584 : Shape := ⟨1, ![3584]⟩
abbrev S1x1024 : Shape := ⟨2, ![1, 1024]⟩
abbrev S1024x1536 : Shape := ⟨2, ![1024, 1536]⟩
abbrev S1536 : Shape := ⟨1, ![1536]⟩
abbrev S1x1536 : Shape := ⟨2, ![1, 1536]⟩
abbrev S8x4096x512 : Shape := ⟨3, ![8, 4096, 512]⟩
abbrev S1x1024x1024 : Shape := ⟨3, ![1, 1024, 1024]⟩
abbrev S1x6x1024 : Shape := ⟨3, ![1, 6, 1024]⟩
abbrev S1x1024x512 : Shape := ⟨3, ![1, 1024, 512]⟩
abbrev S1024x1024 : Shape := ⟨2, ![1024, 1024]⟩
abbrev S1x1x1024 : Shape := ⟨3, ![1, 1, 1024]⟩
abbrev S1024x1 : Shape := ⟨2, ![1024, 1]⟩
abbrev S1024x512 : Shape := ⟨2, ![1024, 512]⟩

abbrev nBuf : Space → Nat
  | .hbm => 12
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x3584, .f32⟩
  | .hbm, ⟨4, _⟩ => ⟨S3584, .f32⟩
  | .hbm, ⟨5, _⟩ => ⟨S1x1024, .f32⟩
  | .hbm, ⟨6, _⟩ => ⟨S1024x1536, .f32⟩
  | .hbm, ⟨7, _⟩ => ⟨S1024x1536, .bf16⟩
  | .hbm, ⟨8, _⟩ => ⟨S1536, .f32⟩
  | .hbm, ⟨9, _⟩ => ⟨S1x1536, .f32⟩
  | .hbm, ⟨10, _⟩ => ⟨S8x4096x512, .bf16⟩
  | .hbm, ⟨11, _⟩ => ⟨S8x4096x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1536, .bf16⟩
  | .local _ .vmem, ⟨6, _⟩ => ⟨S1x1536, .f32⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjRefIdeal.lean ====
abbrev S8x4096x1024 : Shape := ⟨3, ![8, 4096, 1024]⟩
abbrev S8x6x1024 : Shape := ⟨3, ![8, 6, 1024]⟩
abbrev S1024 : Shape := ⟨1, ![1024]⟩
abbrev S1024x3584 : Shape := ⟨2, ![1024, 3584]⟩
abbrev S3584 : Shape := ⟨1, ![3584]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x512 : Shape := ⟨2, ![1024, 512]⟩
abbrev S8x4096x512 : Shape := ⟨3, ![8, 4096, 512]⟩
abbrev S512 : Shape := ⟨1, ![512]⟩
abbrev S1x1x512 : Shape := ⟨3, ![1, 1, 512]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x3584, .f32⟩
  | .hbm, ⟨4, _⟩ => ⟨S3584, .f32⟩
  | .hbm, ⟨5, _⟩ => ⟨S8x1x1024, .f32⟩
  | .hbm, ⟨6, _⟩ => ⟨S8x1024, .f32⟩
  | .hbm, ⟨7, _⟩ => ⟨S8x1x1024, .f32⟩
  | .hbm, ⟨8, _⟩ => ⟨S8x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S1024x512, .f32⟩
  | .hbm, ⟨35, _⟩ => ⟨S8x4096x512, .f32⟩
  | .hbm, ⟨36, _⟩ => ⟨S512, .f32⟩
  | .hbm, ⟨37, _⟩ => ⟨S1x1x512, .f32⟩
  | .hbm, ⟨38, _⟩ => ⟨S8x4096x512, .f32⟩
  | .hbm, ⟨39, _⟩ => ⟨S8x4096x512, .f32⟩
  | .hbm, ⟨40, _⟩ => ⟨S1024x512, .f32⟩
  | .hbm, ⟨41, _⟩ => ⟨S8x4096x512, .f32⟩
  | .hbm, ⟨42, _⟩ => ⟨S512, .f32⟩
  | .hbm, ⟨43, _⟩ => ⟨S1x1x512, .f32⟩
  | .hbm, ⟨44, _⟩ => ⟨S8x4096x512, .f32⟩
  | .hbm, ⟨45, _⟩ => ⟨S8x4096x512, .f32⟩
  | .hbm, ⟨46, _⟩ => ⟨S1024x512, .f32⟩
  | .hbm, ⟨47, _⟩ => ⟨S8x4096x512, .f32⟩
  | .hbm, ⟨48, _⟩ => ⟨S512, .f32⟩
  | .hbm, ⟨49, _⟩ => ⟨S1x1x512, .f32⟩
  | .hbm, ⟨50, _⟩ => ⟨S8x4096x512, .f32⟩
  | .hbm, ⟨51, _⟩ => ⟨S8x4096x512, .f32⟩
  | .hbm, ⟨52, _⟩ => ⟨S8x4096x512, .f32⟩
  | .hbm, ⟨53, _⟩ => ⟨S8x4096x512, .f32⟩
  | .hbm, ⟨54, _⟩ => ⟨S_, .f32⟩
  | .hbm, ⟨55, _⟩ => ⟨S8x4096x512, .f32⟩
  | .hbm, ⟨56, _⟩ => ⟨S8x4096x512, .f32⟩
  | .hbm, ⟨57, _⟩ => ⟨S_, .f32⟩
  | .hbm, ⟨58, _⟩ => ⟨S8x4096x512, .f32⟩
  | .hbm, ⟨59, _⟩ => ⟨S8x4096x512, .f32⟩
  | .hbm, ⟨60, _⟩ => ⟨S8x4096x512, .f32⟩
  | .hbm, ⟨61, _⟩ => ⟨S8x4096x512, .bf16⟩
  | .hbm, ⟨62, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Ada.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Fourier.lean ====
abbrev S8x4096x512 : Shape := ⟨3, ![8, 4096, 512]⟩
abbrev S128x128 : Shape := ⟨2, ![128, 128]⟩
abbrev S4096x4096 : Shape := ⟨2, ![4096, 4096]⟩
abbrev S128x256 : Shape := ⟨2, ![128, 256]⟩
abbrev S1024x1024 : Shape := ⟨2, ![1024, 1024]⟩
abbrev S1024x2048 : Shape := ⟨2, ![1024, 2048]⟩
abbrev S1x1024x2048 : Shape := ⟨3, ![1, 1024, 2048]⟩
abbrev S4x1024x2048 : Shape := ⟨3, ![4, 1024, 2048]⟩
abbrev S1x4096x512 : Shape := ⟨3, ![1, 4096, 512]⟩
abbrev S4x2048x512 : Shape := ⟨3, ![4, 2048, 512]⟩
abbrev S4x1024x512 : Shape := ⟨3, ![4, 1024, 512]⟩
abbrev S1x256x512 : Shape := ⟨3, ![1, 256, 512]⟩
abbrev S256x512 : Shape := ⟨2, ![256, 512]⟩
abbrev S256x128 : Shape := ⟨2, ![256, 128]⟩
abbrev S256x256 : Shape := ⟨2, ![256, 256]⟩
abbrev S1x2048x512 : Shape := ⟨3, ![1, 2048, 512]⟩
abbrev S2048x512 : Shape := ⟨2, ![2048, 512]⟩
abbrev S1024x512 : Shape := ⟨2, ![1024, 512]⟩
abbrev S1x1024x512 : Shape := ⟨3, ![1, 1024, 512]⟩
abbrev S512x512 : Shape := ⟨2, ![512, 512]⟩
abbrev S1x128x512 : Shape := ⟨3, ![1, 128, 512]⟩
abbrev S128x512 : Shape := ⟨2, ![128, 512]⟩
abbrev S1x512x512 : Shape := ⟨3, ![1, 512, 512]⟩

abbrev nBuf : Space → Nat
  | .hbm => 24
  | .vmem => 8
  | .smem => 0
  | _ => 0

abbrev bufTy : (tb : Table) → Fin (tcTables nBuf tb) → BufTy
  | .hbm, ⟨0, _⟩ => ⟨S8x4096x512, .bf16⟩
  | .hbm, ⟨1, _⟩ => ⟨S128x128, .bf16⟩
  | .hbm, ⟨2, _⟩ => ⟨S128x128, .bf16⟩
  | .hbm, ⟨3, _⟩ => ⟨S4096x4096, .bf16⟩
  | .hbm, ⟨4, _⟩ => ⟨S4096x4096, .bf16⟩
  | .hbm, ⟨5, _⟩ => ⟨S128x256, .bf16⟩
  | .hbm, ⟨6, _⟩ => ⟨S1024x1024, .bf16⟩
  | .hbm, ⟨7, _⟩ => ⟨S1024x1024, .bf16⟩
  | .hbm, ⟨8, _⟩ => ⟨S1024x2048, .bf16⟩
  | .hbm, ⟨9, _⟩ => ⟨S1024x1024, .bf16⟩
  | .hbm, ⟨10, _⟩ => ⟨S1024x1024, .bf16⟩
  | .hbm, ⟨11, _⟩ => ⟨S1024x2048, .bf16⟩
  | .hbm, ⟨12, _⟩ => ⟨S1024x1024, .bf16⟩
  | .hbm, ⟨13, _⟩ => ⟨S1024x1024, .bf16⟩
  | .hbm, ⟨14, _⟩ => ⟨S1024x2048, .bf16⟩
  | .hbm, ⟨15, _⟩ => ⟨S1024x1024, .bf16⟩
  | .hbm, ⟨16, _⟩ => ⟨S1024x1024, .bf16⟩
  | .hbm, ⟨17, _⟩ => ⟨S1024x2048, .bf16⟩
  | .hbm, ⟨18, _⟩ => ⟨S1x1024x2048, .bf16⟩
  | .hbm, ⟨19, _⟩ => ⟨S1x1024x2048, .bf16⟩
  | .hbm, ⟨20, _⟩ => ⟨S1x1024x2048, .bf16⟩
  | .hbm, ⟨21, _⟩ => ⟨S1x1024x2048, .bf16⟩
  | .hbm, ⟨22, _⟩ => ⟨S4x1024x2048, .bf16⟩
  | .hbm, ⟨23, _⟩ => ⟨S8x4096x512, .bf16⟩
  | .local _ .vmem, ⟨0, _⟩ => ⟨S1x4096x512, .bf16⟩
  | .local _ .vmem, ⟨1, _⟩ => ⟨S1x4096x512, .bf16⟩
  | .local _ .vmem, ⟨2, _⟩ => ⟨S128x256, .bf16⟩
  | .local _ .vmem, ⟨3, _⟩ => ⟨S4x1024x2048, .bf16⟩
  | .local _ .vmem, ⟨4, _⟩ => ⟨S1x4096x512, .bf16⟩
  | .local _ .vmem, ⟨5, _⟩ => ⟨S1x4096x512, .bf16⟩
  | .local _ .vmem, ⟨6, _⟩ => ⟨S4x2048x512, .bf16⟩
  | .local _ .vmem, ⟨7, _⟩ => ⟨S4x1024x512, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FourierRefIdeal.lean ====
abbrev S8x4096x512 : Shape := ⟨3, ![8, 4096, 512]⟩
abbrev S128x128 : Shape := ⟨2, ![128, 128]⟩
abbrev S4096x4096 : Shape := ⟨2, ![4096, 4096]⟩
abbrev S8x4096x4x128 : Shape := ⟨4, ![8, 4096, 4, 128]⟩
abbrev S8x512x4096 : Shape := ⟨3, ![8, 512, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S128x128, .bf16⟩
  | .hbm, ⟨2, _⟩ => ⟨S128x128, .bf16⟩
  | .hbm, ⟨3, _⟩ => ⟨S4096x4096, .bf16⟩
  | .hbm, ⟨4, _⟩ => ⟨S4096x4096, .bf16⟩
  | .hbm, ⟨5, _⟩ => ⟨S8x4096x4x128, .bf16⟩
  | .hbm, ⟨6, _⟩ => ⟨S8x4096x4x128, .f32⟩
  | .hbm, ⟨7, _⟩ => ⟨S128x128, .f32⟩
  | .hbm, ⟨8, _⟩ => ⟨S8x4096x4x128, .f32⟩
  | .hbm, ⟨9, _⟩ => ⟨S8x4096x512, .f32⟩
  | .hbm, ⟨10, _⟩ => ⟨S128x128, .f32⟩
  | .hbm, ⟨11, _⟩ => ⟨S8x4096x4x128, .f32⟩
  | .hbm, ⟨12, _⟩ => ⟨S8x4096x512, .f32⟩
  | .hbm, ⟨13, _⟩ => ⟨S4096x4096, .f32⟩
  | .hbm, ⟨14, _⟩ => ⟨S8x512x4096, .f32⟩
  | .hbm, ⟨15, _⟩ => ⟨S8x4096x512, .f32⟩
  | .hbm, ⟨16, _⟩ => ⟨S4096x4096, .f32⟩
  | .hbm, ⟨17, _⟩ => ⟨S8x512x4096, .f32⟩
  | .hbm, ⟨18, _⟩ => ⟨S8x4096x512, .f32⟩
  | .hbm, ⟨19, _⟩ => ⟨S8x4096x512, .f32⟩
  | .hbm, ⟨20, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.FfnPure.lean ====
/- The expert feed-forward kernel's per-point values: what each grid point leaves in the carried accumulator and, at the
   last point of a run, in the output block, as sums over the block's entries. -/
module

public import proofs.«01_k».proof.Proof.Gen.FfnIdeal.Frame
public import Idealize.ShloMosaic.Lib.Pipeline.ValueKit
public import Idealize.ShloMosaic.Lib.Pointwise
public import Idealize.ShloMosaic.Lib.Pipeline.ReadBack

@[expose] public section

set_option maxRecDepth 16384
set_option maxHeartbeats 2000000

noncomputable section

namespace Cert.FfnIdeal.Hand

open Idealize.ShloMosaic Idealize.SL.Sem Cert.FfnIdeal Cert.FfnIdeal.Gen

/-- One hidden unit: row `r` of token block `b` against hidden column `f` of the gate and up weight blocks. -/
def act (X : Vec Ideal S4x1x512x1024 .bf16) (G U : Vec Ideal S1x1024x512 .f32) (b : Fin 4) (r f : Fin 512) : EReal :=
  (∑ k : Fin 1024, X (ix4 b 0 r k) * G (ix3 0 k f)) * Ideal.logistic (∑ k : Fin 1024, X (ix4 b 0 r k) * G (ix3 0 k f)) *
    (∑ k : Fin 1024, X (ix4 b 0 r k) * U (ix3 0 k f))

/-- One hidden tile's contribution to output column `d`. -/
def part (X : Vec Ideal S4x1x512x1024 .bf16) (G U : Vec Ideal S1x1024x512 .f32) (D : Vec Ideal S1x512x1024 .f32)
    (b : Fin 4) (r : Fin 512) (d : Fin 1024) : EReal :=
  ∑ f : Fin 512, act X G U b r f * D (ix3 0 f d)

variable (m : (ℓ : Loc nD τ sig) → Buf (Elt Ideal) ℓ)

/-- At the first point of a run the accumulator is overwritten with that hidden tile's part. -/
theorem scratchA (c : Dev nD) (t : Fin cfg0.N) (h0 : t.val % 4 = 0) (y : S4x512x1024.Idx) :
    (outsAt0 m c t.val t.isLt).2 y = part (iblk m c 0 t) (iblk m c 1 t) (iblk m c 2 t) (iblk m c 3 t) (y 0) (y 1) (y 2) := by
  rw [outsAt0_A m c t h0 (by omega) (by omega)]
  frame_out
  canon_tiles x h
  all_goals (open_payloads; pointwise [part, act]; blk_point [])

/-- At the next two points the accumulator gains that hidden tile's part. -/
theorem scratchB (c : Dev nD) (t : Fin cfg0.N) (h1 : 1 ≤ t.val % 4 ∧ t.val % 4 ≤ 2) (y : S4x512x1024.Idx) :
    (outsAt0 m c t.val t.isLt).2 y =
      (outsAt0 m c (t.val - 1) (Nat.lt_of_le_of_lt (Nat.sub_le _ _) t.isLt)).2 y +
        part (iblk m c 0 t) (iblk m c 1 t) (iblk m c 2 t) (iblk m c 3 t) (y 0) (y 1) (y 2) := by
  rw [outsAt0_B m c t (by omega) h1 (by omega)]
  frame_out
  generalize (outsAt0 m c (t.val - 1) (Nat.lt_of_le_of_lt (Nat.sub_le _ _) t.isLt)).2 = acc
  simp only [Idealize.ShloMosaic.read_unread_whole]
  canon_tiles x h
  all_goals (open_payloads; pointwise [part, act]; blk_point [])

/-- At the last point the output block is the accumulator plus that hidden tile's part, times the row's weight (read in
    any lane: the output's column modulo the lane count). -/
theorem outC (c : Dev nD) (t : Fin cfg0.N) (h2 : t.val % 4 = 3) (y : S4x1x512x1024.Idx) :
    (outsAt0 m c t.val t.isLt).1 y =
      ((outsAt0 m c (t.val - 1) (Nat.lt_of_le_of_lt (Nat.sub_le _ _) t.isLt)).2 (ix3 (y 0) (y 2) (y 3)) +
        part (iblk m c 0 t) (iblk m c 1 t) (iblk m c 2 t) (iblk m c 3 t) (y 0) (y 2) (y 3)) *
      (show Vec Ideal S4x1x512x128 .f32 from iblk m c 4 t) (ix4 (y 0) 0 (y 2) ⟨(y 3).val % 128, by omega⟩) := by
  rw [outsAt0_C m c t (by omega) (by omega) h2]
  frame_out
  generalize (outsAt0 m c (t.val - 1) (Nat.lt_of_le_of_lt (Nat.sub_le _ _) t.isLt)).2 = acc
  simp only [Idealize.ShloMosaic.read_unread_whole]
  canon_tiles x h
  all_goals (open_payloads; pointwise [part, act]; blk_point [])

end Cert.FfnIdeal.Hand

end
-- ==== Proof.FfnFinal.lean ====
/- The expert feed-forward kernel's whole output array: the four hidden tiles of a run added up are the contraction over
   all 2048 hidden columns. -/
module

public import proofs.«01_k».proof.Proof.FfnPure
public import Idealize.ShloMosaic.Lib.Pipeline.ValueKit
public import Idealize.ShloMosaic.Lib.Pointwise
public import Idealize.ShloMosaic.Lib.Pipeline.ReadBack

@[expose] public section

set_option maxRecDepth 16384
set_option maxHeartbeats 2000000

noncomputable section

namespace Cert.FfnIdeal.Hand

open Idealize.ShloMosaic Idealize.SL.Sem Cert.FfnIdeal Cert.FfnIdeal.Gen

variable (m : (ℓ : Loc nD τ sig) → Buf (Elt Ideal) ℓ)

/-- The block each window is on at grid point `t`. -/
theorem idx : ∀ t : Fin cfg0.N,
    win0_0.index t = ![t.val / 4 % 2, t.val / 8, 0, 0] ∧ win0_1.index t = ![t.val / 8, 0, t.val % 4] ∧
    win0_2.index t = ![t.val / 8, 0, t.val % 4] ∧ win0_3.index t = ![t.val / 8, t.val % 4, 0] ∧
    win0_4.index t = ![t.val / 4 % 2, t.val / 8, 0, 0] ∧ win0_5.index t = ![t.val / 4 % 2, t.val / 8, 0, 0] :=
  (by decide +kernel : ∀ t : Fin grid0.N, _)

/-- What the reference computes at output index `j`. -/
def SPEC (X : Vec Ideal S8x16x512x1024 .bf16) (w : Vec Ideal S8x16x512 .f32) (G U : Vec Ideal S16x1024x2048 .f32)
    (D : Vec Ideal S16x2048x1024 .f32) (j : S8x16x512x1024.Idx) : EReal :=
  (∑ f : Fin 2048, (∑ k : Fin 1024, X (ix4 (j 0) (j 1) (j 2) k) * G (ix3 (j 1) k f)) *
      Ideal.logistic (∑ k : Fin 1024, X (ix4 (j 0) (j 1) (j 2) k) * G (ix3 (j 1) k f)) *
      (∑ k : Fin 1024, X (ix4 (j 0) (j 1) (j 2) k) * U (ix3 (j 1) k f)) * D (ix3 (j 1) f (j 3))) * w (ix3 (j 0) (j 1) (j 2))

/-- The same with the factors of every inner product in the other order. -/
theorem SPEC_eq (X : Vec Ideal S8x16x512x1024 .bf16) (w : Vec Ideal S8x16x512 .f32) (G U : Vec Ideal S16x1024x2048 .f32)
    (D : Vec Ideal S16x2048x1024 .f32) (j : S8x16x512x1024.Idx) : SPEC X w G U D j =
    (∑ f : Fin 2048, D (ix3 (j 1) f (j 3)) * ((∑ k : Fin 1024, G (ix3 (j 1) k f) * X (ix4 (j 0) (j 1) (j 2) k)) *
      Ideal.logistic (∑ k : Fin 1024, G (ix3 (j 1) k f) * X (ix4 (j 0) (j 1) (j 2) k)) *
      (∑ k : Fin 1024, U (ix3 (j 1) k f) * X (ix4 (j 0) (j 1) (j 2) k)))) * w (ix3 (j 0) (j 1) (j 2)) := by
  have e (W : Vec Ideal S16x1024x2048 .f32) (f : Fin 2048) :
      (∑ k : Fin 1024, X (ix4 (j 0) (j 1) (j 2) k) * W (ix3 (j 1) k f)) = ∑ k : Fin 1024, W (ix3 (j 1) k f) * X (ix4 (j 0) (j 1) (j 2) k) :=
    Finset.sum_congr rfl fun _ _ => mul_comm _ _
  unfold SPEC
  simp only [e]
  congr 1
  exact Finset.sum_congr rfl fun _ _ => mul_comm _ _

/-- The points of the run that ends at `t` are grid points. -/
theorem run_lt (t : Fin cfg0.N) (s : Fin 4) (h3 : t.val % 4 = 3) : 4 * (t.val / 4) + s.val < cfg0.N := by
  have := t.isLt; omega

/-- A quantity reset at the first point of a run of four and added into at the next two is, with the last point's
    term added, the sum of the run's four terms. -/
theorem run_of_four {N : ℕ} (A : (n : ℕ) → n < N → EReal) (P : Fin N → EReal)
    (hA : ∀ t : Fin N, t.val % 4 = 0 → A t.val t.isLt = P t)
    (hB : ∀ t : Fin N, 1 ≤ t.val % 4 ∧ t.val % 4 ≤ 2 → A t.val t.isLt = A (t.val - 1) (Nat.lt_of_le_of_lt (Nat.sub_le _ _) t.isLt) + P t)
    (t : Fin N) (h3 : t.val % 4 = 3) (hlt : ∀ s : Fin 4, 4 * (t.val / 4) + s.val < N) :
    A (t.val - 1) (Nat.lt_of_le_of_lt (Nat.sub_le _ _) t.isLt) + P t = ∑ s : Fin 4, P ⟨4 * (t.val / 4) + s.val, hlt s⟩ := by
  obtain ⟨n, hn⟩ := t
  obtain ⟨q, rfl⟩ : ∃ q, n = 4 * q + 3 := ⟨n / 4, by dsimp only at h3; omega⟩
  have e1 := hB ⟨4 * q + 2, by omega⟩ (by dsimp only; omega)
  have e2 := hB ⟨4 * q + 1, by omega⟩ (by dsimp only; omega)
  have e3 := hA ⟨4 * q, by omega⟩ (by dsimp only; omega)
  dsimp only at e1 e2 e3
  have hq : (4 * q + 3) / 4 = q := by omega
  rw [Fin.sum_univ_four]
  simp only [show 4 * q + 3 - 1 = 4 * q + 2 by omega]
  simp only [show 4 * q + 2 - 1 = 4 * q + 1 by omega] at e1
  simp only [show 4 * q + 1 - 1 = 4 * q by omega] at e2
  rw [e1, e2, e3]
  have f0 : (⟨4 * ((4 * q + 3) / 4) + (0 : Fin 4).val, hlt 0⟩ : Fin N) = ⟨4 * q, by omega⟩ := Fin.ext (by simp [hq])
  have f1 : (⟨4 * ((4 * q + 3) / 4) + (1 : Fin 4).val, hlt 1⟩ : Fin N) = ⟨4 * q + 1, by omega⟩ := Fin.ext (by simp [hq])
  have f2 : (⟨4 * ((4 * q + 3) / 4) + (2 : Fin 4).val, hlt 2⟩ : Fin N) = ⟨4 * q + 2, by omega⟩ := Fin.ext (by simp [hq])
  have f3 : (⟨4 * ((4 * q + 3) / 4) + (3 : Fin 4).val, hlt 3⟩ : Fin N) = ⟨4 * q + 3, hn⟩ := Fin.ext (by simp [hq])
  rw [f0, f1, f2, f3]

/-- What the flushing point of a run of four holds before the weight: the run's four parts. -/
theorem total (c : Dev nD) (t : Fin cfg0.N) (h3 : t.val % 4 = 3) (b : Fin 4) (r : Fin 512) (d : Fin 1024) :
    (outsAt0 m c (t.val - 1) (Nat.lt_of_le_of_lt (Nat.sub_le _ _) t.isLt)).2 (ix3 b r d) +
      part (iblk m c 0 t) (iblk m c 1 t) (iblk m c 2 t) (iblk m c 3 t) b r d =
    ∑ s : Fin 4, part (iblk m c 0 ⟨4 * (t.val / 4) + s.val, run_lt t s h3⟩) (iblk m c 1 ⟨4 * (t.val / 4) + s.val, run_lt t s h3⟩)
      (iblk m c 2 ⟨4 * (t.val / 4) + s.val, run_lt t s h3⟩) (iblk m c 3 ⟨4 * (t.val / 4) + s.val, run_lt t s h3⟩) b r d :=
  run_of_four (fun n h => (outsAt0 m c n h).2 (ix3 b r d))
    (fun t => part (iblk m c 0 t) (iblk m c 1 t) (iblk m c 2 t) (iblk m c 3 t) b r d)
    (fun t h => scratchA m c t h (ix3 b r d)) (fun t h => scratchB m c t h (ix3 b r d)) t h3 (fun s => run_lt t s h3)

/-- What a flushing point writes at block index `y` is the specification at the array index `j` it lands on. -/
theorem point (c : Dev nD) (t : Fin cfg0.N) (h3 : t.val % 4 = 3) (y : S4x1x512x1024.Idx) (j : S8x16x512x1024.Idx)
    (hj0 : (j 0 : ℕ) = t.val / 4 % 2 * 4 + y 0) (hj1 : (j 1 : ℕ) = t.val / 8) (hj2 : (j 2 : ℕ) = y 2) (hj3 : (j 3 : ℕ) = y 3) :
    (outsAt0 m c t.val t.isLt).1 y =
    SPEC (m (c.tc.loc main_arg0)) (m (c.tc.loc main_arg1)) (m (c.tc.loc main_arg2))
      (m (c.tc.loc main_arg3)) (m (c.tc.loc main_arg4)) j := by
  rw [outC m c t h3, total m c t h3 (y 0) (y 2) (y 3)]
  unfold SPEC part act
  congr 1
  · refine Fin.sum_mul_add_congr fun s f hl => ?_
    blk_point [iblk, V, idx ⟨_, run_lt t s h3⟩]
  · blk_point [iblk, V, idx t]

/-- The output array after the run is the specification of the argument arrays. -/
theorem final (c : Dev nD) : (dats m 0 c).arrAt 5 cfg0.N =
    SPEC (m (c.tc.loc main_arg0)) (m (c.tc.loc main_arg1)) (m (c.tc.loc main_arg2))
      (m (c.tc.loc main_arg3)) (m (c.tc.loc main_arg4)) := by
  refine (dats m 0 c).arrAt_eq_of_covers 5 _ (by decide +kernel) fun t hf y => ?_
  have h3 := (flush0_5 t).mp hf
  blk_simp
  rw [after0_5]
  refine point m c t h3 y _ ?_ ?_ ?_ ?_
  all_goals (blk_simp [idx t] <;> try omega)

end Cert.FfnIdeal.Hand

end
-- ==== Proof.AdaFinal.lean ====
/- The conditioning projection kernel's output array, index by index, as a function of its arguments; and the same array
   as its reference computes it. -/
module

public import proofs.«01_k».proof.Defs
public import proofs.«01_k».proof.Proof.Gen.AdaIdeal.Value
public import proofs.«01_k».proof.Proof.Gen.AdaRefIdeal.Run
public import Idealize.ShloMosaic.Lib.Pipeline.ValueKit
public import Idealize.ShloMosaic.Lib.Pointwise
public import Idealize.ShloMosaic.Lib.Pipeline.ReadBack
public import Idealize.ShloMosaic.Lib.Tactic.ValueTie

@[expose] public section

set_option maxRecDepth 16384
set_option maxHeartbeats 2000000

noncomputable section

namespace Cert.AdaIdeal.Hand

open Idealize.ShloMosaic Idealize.SL.Sem Cert.AdaIdeal Cert.AdaIdeal.Gen

/-- Row `i 0` of the conditioning, through silu, against column `i 1` of the weight, plus the bias. -/
def SPEC (C : Vec Ideal S8x1024 .f32) (W : Vec Ideal S1024x6144 .f32) (B : Vec Ideal S6144 .f32) (i : S8x6144.Idx) : EReal :=
  (∑ k : Fin 1024, C (ix2 (i 0) k) * Ideal.logistic (C (ix2 (i 0) k)) * W (ix2 k (i 1))) + B (ix1 (i 1))

variable (m : (ℓ : Loc nD τ sig) → Buf (Elt Ideal) ℓ)

/-- The block each window is on at grid point `t`. -/
theorem idx : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

/-- What point `t` leaves in the output block. -/
theorem point (c : Dev nD) (t : Fin cfg0.N) (y : S8x1536.Idx) (j : S8x6144.Idx)
    (hj0 : (j 0 : ℕ) = y 0) (hj1 : (j 1 : ℕ) = t.val * 1536 + y 1) :
    out0_3 (iblk m c 0 t) (iblk m c 1 t) (iblk m c 2 t) y =
    SPEC (m (c.tc.loc main_arg0)) (m (c.tc.loc main_arg1)) (m (c.tc.loc main_arg2)) j := by
  frame_out
  open_payloads
  pointwise [SPEC]
  blk_point [iblk, V, idx t]

/-- The output array after the run. -/
theorem final (c : Dev nD) : (dats m 0 c).arrAt 3 cfg0.N =
    SPEC (m (c.tc.loc main_arg0)) (m (c.tc.loc main_arg1)) (m (c.tc.loc main_arg2)) := by
  refine (dats m 0 c).arrAt_eq_of_covers 3 _ (by decide +kernel) fun t hf y => ?_
  blk_simp
  rw [after0_3]
  refine point m c t y _ ?_ ?_
  all_goals (blk_simp [idx t] <;> try omega)

/-- The kernel and the reference compute the same array on memories agreeing on the arguments. -/
theorem tie : algebraic_AdaIdeal_AdaRefIdeal := by
  intro m ρ m' ρ' _ hagree
  refine ⟨_, Cert.AdaIdeal.Value.run_blocks (F := Ideal) m ρ, ?_⟩
  refine (θ_run Cert.AdaRefIdeal.defs _ _).mono (fun _ h c => ⟨?_, (h c).2⟩) (Cert.AdaRefIdeal.Value.run (F := Ideal) m' ρ')
  rw [(h c).1]
  simp only [hagree c]
  rw [final]
  clear h
  funext j
  pointwise [SPEC]
  simp only [Ideal.logistic]

end Cert.AdaIdeal.Hand

end
-- ==== Proof.MixerWin.lean ====
/- The mixer kernel's convolution window: what the staged rows of the branch input are, row by row. -/
module

public import proofs.«01_k».proof.Proof.Gen.MixerIdeal.Skeleton
public import Idealize.ShloMosaic.Lib.Pipeline.ValueKit
public import Idealize.ShloMosaic.Lib.Pointwise
public import Idealize.ShloMosaic.Lib.Pipeline.ReadBack

@[expose] public section

set_option maxRecDepth 16384
set_option maxHeartbeats 2000000

noncomputable section

namespace Cert.MixerIdeal.Hand

open Idealize.ShloMosaic Idealize.SL.Sem Cert.MixerIdeal Cert.MixerIdeal.Gen

theorem off1 (i : grid0.Coords) : k0_off1 i = ![0, 512 * (i 1).val, 0] := by
  have h : ∀ k : Fin 8, (Scalar.indexCast (Scalar.muli (BitVec.ofNat 32 k.val) 512#32)).toNat = 512 * k.val := by decide +kernel
  simp only [k0_off1]
  rw [h (i 1)]

theorem off2 (i : grid0.Coords) : k0_off2 i = ![0, 512 * (i 1).val - 16, 0] := by
  have h : ∀ k : Fin 8, (Scalar.indexCast (Scalar.maxsi (Scalar.subi (Scalar.muli (BitVec.ofNat 32 k.val) 512#32) 16#32) 0#32)).toNat = 512 * k.val - 16 := by decide +kernel
  simp only [k0_off2]
  rw [h (i 1)]

theorem off3 (i : grid0.Coords) : k0_off3 i = ![0, min (512 * (i 1).val + 512) 4080, 0] := by
  have h : ∀ k : Fin 8, (Scalar.indexCast (Scalar.minsi (Scalar.addi (Scalar.muli (BitVec.ofNat 32 k.val) 512#32) 512#32) 4080#32)).toNat = min (512 * k.val + 512) 4080 := by decide +kernel
  simp only [k0_off3]
  rw [h (i 1)]

/-- Row `a`, lane `c` of the convolution's window: the branch input 16 rows before the tile's first row plus `a`,
    and zero outside the sequence. -/
def win (j : Fin 8) (v : Vec Ideal S1x4096x512 .bf16) (a : ℕ) (c : Fin 512) : EReal :=
  if h : 16 ≤ 512 * j.val + a ∧ 512 * j.val + a < 4112 then v (ix3 0 ⟨512 * j.val + a - 16, by omega⟩ c) else 0

theorem lo (i : grid0.Coords) (w : Vec Ideal S1x16x512 .bf16) (x : S16x512.Idx) :
    k0_pay6 i w x = if 0 < (i 1).val then w (ix3 0 (x 0) (x 1)) else 0 := by
  have h : ∀ k : Fin 8, Scalar.cmpi .sgt (BitVec.ofNat 32 k.val) 0#32 = (if 0 < k.val then 1#1 else 0#1) := by decide +kernel
  unfold k0_pay6
  rw [h (i 1)]
  split
  all_goals (open_payloads; pointwise [])

theorem hi (i : grid0.Coords) (w : Vec Ideal S1x16x512 .bf16) (x : S16x512.Idx) :
    k0_pay8 (k0_pay7 i w) x = if (i 1).val < 7 then w (ix3 0 (x 0) (x 1)) else 0 := by
  have h : ∀ k : Fin 8, Scalar.cmpi .slt (BitVec.ofNat 32 k.val) 7#32 = (if k.val < 7 then 1#1 else 0#1) := by decide +kernel
  unfold k0_pay8 k0_pay7
  dsimp only
  rw [h (i 1)]
  split
  all_goals (open_payloads; pointwise [])

theorem mid (w : Vec Ideal S1x512x512 .bf16) (x : S512x512.Idx) : k0_pay5 w x = w (ix3 0 (x 0) (x 1)) := by
  open_payloads
  pointwise []

/-- The window's 520 rows from row `o` on. -/
def WIN (j : Fin 8) (v : Vec Ideal S1x4096x512 .bf16) (o : ℕ) : Vec Ideal S520x512 .f32 := fun y => win j v ((y 0).val + o) (y 1)

theorem ld_row {n : ℕ} (v : Vec Ideal S1x4096x512 .bf16) (off : Fin 3 → ℕ) (o : ℕ) (hoff : off = ![0, o, 0])
    (p : ∀ a, off a + (![1, n, 512] : Fin 3 → ℕ) a ≤ S1x4096x512.size a) (r : Fin n) (q : Fin 512) (R : Fin 4096) (Q : Fin 512)
    (hR : R.val = o + r.val) (hQ : Q.val = q.val) :
    View.ld v (Rect.unit off ![1, n, 512] p) (ix3 0 r q) = v (ix3 0 R Q) := by
  subst hoff
  show v _ = v _
  congr 1
  funext a
  fin_cases a <;> apply Fin.ext <;> simp [LoadRect.idx, hR, hQ]

theorem read_win (i : grid0.Coords) (v : Vec Ideal S1x4096x512 .bf16) (o : ℕ) (ho : o + 520 ≤ 544)
    (p1 : ∀ a, k0_off1 i a + (![1, 512, 512] : Fin 3 → ℕ) a ≤ S1x4096x512.size a)
    (p2 : ∀ a, k0_off2 i a + (![1, 16, 512] : Fin 3 → ℕ) a ≤ S1x4096x512.size a)
    (p3 : ∀ a, k0_off3 i a + (![1, 16, 512] : Fin 3 → ℕ) a ≤ S1x4096x512.size a)
    (p4 : ∀ a, (![o, 0] : Fin 2 → ℕ) a + (![520, 512] : Fin 2 → ℕ) a ≤ S544x512.size a) :
    (View.whole cc0_scratch0).readCov
            [⟨Rect.unit ![528, 0] ![16, 512] inb_S544x512_S16x512_528_0, k0_pay8 (F := Ideal) (k0_pay7 i (View.ld v (Rect.unit (k0_off3 i) ![1, 16, 512] p3)))⟩,
              ⟨Rect.unit ![0, 0] ![16, 512] inb_S544x512_S16x512_0_0, k0_pay6 i (View.ld v (Rect.unit (k0_off2 i) ![1, 16, 512] p2))⟩,
              ⟨Rect.unit ![16, 0] ![512, 512] inb_S544x512_S512x512_16_0, k0_pay5 (View.ld v (Rect.unit (k0_off1 i) ![1, 512, 512] p1))⟩]
            (Rect.unit (s := S544x512) ![o, 0] ![520, 512] p4).toLoadRect = WIN (i 1) v o := by
  rw [View.readCov_eq_canon']
  funext y
  unfold WIN
  obtain ⟨z, hz⟩ : ∃ z : S544x512.Idx, z = (Rect.unit (s := S544x512) ![o, 0] ![520, 512] p4).toLoadRect.idx y := ⟨_, rfl⟩
  have h0 : (z 0).val = (y 0).val + o := by rw [hz]; simp [LoadRect.idx, Nat.add_comm]
  have h1 : (z 1).val = (y 1).val := by rw [hz]; simp [LoadRect.idx]
  rw [← hz, ← h0, show y 1 = z 1 from Fin.ext h1.symm]
  clear hz h0 h1
  have cover : ∃ p ∈ ([⟨Rect.unit ![528, 0] ![16, 512] inb_S544x512_S16x512_528_0, k0_pay8 (F := Ideal) (k0_pay7 i (View.ld v (Rect.unit (k0_off3 i) ![1, 16, 512] p3)))⟩,
              ⟨Rect.unit ![0, 0] ![16, 512] inb_S544x512_S16x512_0_0, k0_pay6 i (View.ld v (Rect.unit (k0_off2 i) ![1, 16, 512] p2))⟩,
              ⟨Rect.unit ![16, 0] ![512, 512] inb_S544x512_S512x512_16_0, k0_pay5 (View.ld v (Rect.unit (k0_off1 i) ![1, 512, 512] p1))⟩] : List (View.Piece (Elt Ideal) S544x512 .f32)), z ∈ p.1.set := by
    simp only [List.mem_cons, List.not_mem_nil, or_false, exists_eq_or_imp, exists_eq_left, Rect.mem_set_unit, Fin.forall_fin_two]
    have a0 : (z 0).val < 544 := (z 0).isLt
    have a1 : (z 1).val < 512 := (z 1).isLt
    simp
    omega
  canon_tiles x h using cover
  · rw [hi]
    unfold win
    have h8 : (i 1).val < 8 := (i 1).isLt
    split_ifs <;> first | omega | exact ld_row v _ _ (off3 i) _ _ _ _ _ (by dsimp only; omega) h1 | rfl
  · rw [lo]
    unfold win
    have h8 : (i 1).val < 8 := (i 1).isLt
    split_ifs <;> first | omega | exact ld_row v _ _ (off2 i) _ _ _ _ _ (by dsimp only; omega) h1 | rfl
  · rw [mid]
    unfold win
    have h8 : (i 1).val < 8 := (i 1).isLt
    split_ifs <;> first | omega | exact ld_row v _ _ (off1 i) _ _ _ _ _ (by dsimp only; omega) h1 | rfl

end Cert.MixerIdeal.Hand
-- ==== Proof.MixerConv.lean ====
/- The mixer kernel's convolution branch: the 31-tap sum over the staged window, its layer norm and its silu. -/
module

public import proofs.«01_k».proof.Proof.MixerWin
public import Idealize.ShloMosaic.Lib.Pipeline.ValueKit
public import Idealize.ShloMosaic.Lib.Pointwise
public import Idealize.ShloMosaic.Lib.Pipeline.ReadBack

@[expose] public section

set_option maxRecDepth 16384
set_option maxHeartbeats 4000000

noncomputable section

namespace Cert.MixerIdeal.Hand

open Idealize.ShloMosaic Idealize.SL.Sem Cert.MixerIdeal Cert.MixerIdeal.Gen

/-- The depthwise convolution at row `r` of tile `j` and channel `q`: 31 taps of the window, and the bias. -/
def conv (j : Fin 8) (v : Vec Ideal S1x4096x512 .bf16) (d : Vec Ideal S31x512 .f32) (b : Vec Ideal S1x512 .f32) (r q : Fin 512) : EReal :=
  (∑ k : Fin 31, win j v (r.val + 1 + k.val) q * d (ix2 k q)) + b (ix2 0 q)

/-- A row less its mean. -/
def cen (x : Fin 512 → EReal) (q : Fin 512) : EReal := x q - Ideal.div (∑ i, x i) (Ideal.ofBits FTy.f32 0x44000000#32)

/-- The layer norm of a row with gain `g` and offset `b`. -/
def ln (x g b : Fin 512 → EReal) (q : Fin 512) : EReal :=
  cen x q * Ideal.rsqrt (Ideal.div (∑ i, cen x i * cen x i) (Ideal.ofBits FTy.f32 0x44000000#32) + Ideal.ofBits FTy.f32 0x3727C5AC#32) * g q + b q

/-- A number times its logistic. -/
def silu (z : EReal) : EReal := z * Ideal.logistic z

/-- A rotation of 520 rows by nearly the whole moves a row of the first 512 up by the rest. -/
theorem rot (r : Fin 512) (s n : ℕ) (h : s + n = 520) (hn : n < 9) : (r.val + 520 - s) % 520 = r.val + n := by
  have := r.isLt; omega

/-- The last of the convolution's partial sums: what is accumulated so far and the rows shifted by six and by seven. -/
def tail (v189 : FVec Ideal S512x512 .f32) (v203 : FVec Ideal S520x512 .f32) (v204 : Vec Ideal S520x512 .f32) (v206 : FVec Ideal S520x512 .f32) (v212 : Vec Ideal S520x512 .f32) (v213 : Vec Ideal S1x512 .f32) (v216 : Vec Ideal S520x512 .f32) (v217 : Vec Ideal S1x512 .f32) (v221 : Vec Ideal S520x512 .f32) (v222 : Vec Ideal S1x512 .f32) (v226 : Vec Ideal S520x512 .f32) (v227 : Vec Ideal S1x512 .f32)
    (r q : Fin 512) : EReal :=
  v189 (ix2 r q) + (v203 (ix2 ⟨r.val + 6, by omega⟩ q) + v204 (ix2 ⟨r.val + 6, by omega⟩ q) * v206 (ix2 ⟨r.val + 6, by omega⟩ q)) +
    (v212 (ix2 ⟨r.val + 7, by omega⟩ q) * v213 (ix2 0 q) + v216 (ix2 ⟨r.val + 7, by omega⟩ q) * v217 (ix2 0 q) +
      v221 (ix2 ⟨r.val + 7, by omega⟩ q) * v222 (ix2 0 q) + v226 (ix2 ⟨r.val + 7, by omega⟩ q) * v227 (ix2 0 q))

/-- The centred convolution row. -/
theorem pay21_at (v189 : FVec Ideal S512x512 .f32) (v203 : FVec Ideal S520x512 .f32) (v204 : Vec Ideal S520x512 .f32) (v206 : FVec Ideal S520x512 .f32) (v212 : Vec Ideal S520x512 .f32) (v213 : Vec Ideal S1x512 .f32) (v216 : Vec Ideal S520x512 .f32) (v217 : Vec Ideal S1x512 .f32) (v221 : Vec Ideal S520x512 .f32) (v222 : Vec Ideal S1x512 .f32) (v226 : Vec Ideal S520x512 .f32) (v227 : Vec Ideal S1x512 .f32)
    (y : S512x512.Idx) : k0_pay21 v189 v203 v204 v206 v212 v213 v216 v217 v221 v222 v226 v227 y = cen (tail v189 v203 v204 v206 v212 v213 v216 v217 v221 v222 v226 v227 (y 0)) (y 1) := by
  open_payloads
  pointwise [cen, tail]
  simp only [rot (y 0) 514 6 rfl (by decide), rot (y 0) 513 7 rfl (by decide)]
  try rfl

/-- The mean square of the centred row. -/
theorem pay22_at (v189 : FVec Ideal S512x512 .f32) (v203 : FVec Ideal S520x512 .f32) (v204 : Vec Ideal S520x512 .f32) (v206 : FVec Ideal S520x512 .f32) (v212 : Vec Ideal S520x512 .f32) (v213 : Vec Ideal S1x512 .f32) (v216 : Vec Ideal S520x512 .f32) (v217 : Vec Ideal S1x512 .f32) (v221 : Vec Ideal S520x512 .f32) (v222 : Vec Ideal S1x512 .f32) (v226 : Vec Ideal S520x512 .f32) (v227 : Vec Ideal S1x512 .f32)
    (y : S512x1.Idx) : k0_pay22 v189 v203 v204 v206 v212 v213 v216 v217 v221 v222 v226 v227 y =
      Ideal.div (∑ q : Fin 512, k0_pay21 v189 v203 v204 v206 v212 v213 v216 v217 v221 v222 v226 v227 (ix2 (y 0) q) * k0_pay21 v189 v203 v204 v206 v212 v213 v216 v217 v221 v222 v226 v227 (ix2 (y 0) q)) (Ideal.ofBits FTy.f32 0x44000000#32) := by
  unfold k0_pay22
  generalize k0_pay21 v189 v203 v204 v206 v212 v213 v216 v217 v221 v222 v226 v227 = u
  pointwise []

/-- The layer norm's last steps and the silu. -/
theorem pay23_at (x : FVec Ideal S512x512 .f32) (s : FVec Ideal S512x1 .f32) (g b : Vec Ideal S1x512 .f32) (y : S512x512.Idx) :
    k0_pay23 x s g b y = silu (x y * Ideal.rsqrt (s (ix2 (y 0) 0) + Ideal.ofBits FTy.f32 0x3727C5AC#32) * g (ix2 0 (y 1)) + b (ix2 0 (y 1))) := by
  open_payloads
  pointwise [silu]

/-- A sum of 31 terms written out. -/
theorem sum31 (f : Fin 31 → EReal) : ∑ k, f k = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Finset.univ_eq_empty, Finset.sum_empty, zero_add]
  rfl

/-- The kernel's shifted partial sums add up to the convolution. -/
theorem conv_eq (j : Fin 8) (v5 : Vec Ideal S1x4096x512 .bf16) (v6 : Vec Ideal S31x512 .f32) (v7 : Vec Ideal S1x512 .f32) (r q : Fin 512) :
    tail (k0_pay18 (k0_pay16 (k0_pay14 (k0_pay12 (k0_pay11 (WIN j v5 8) (View.ld v6 (Rect.unit ![7, 0] ![1, 512] inb_S31x512_S1x512_7_0)) (WIN j v5 16)
      (View.ld v6 (Rect.unit ![15, 0] ![1, 512] inb_S31x512_S1x512_15_0))) (WIN j v5 24) (View.ld v6 (Rect.unit ![23, 0] ![1, 512] inb_S31x512_S1x512_23_0))
      v7 (WIN j v5 0) (View.ld v6 (Rect.unit ![0, 0] ![1, 512] inb_S31x512_S1x512_0_0)) (WIN j v5 8) (View.ld v6 (Rect.unit ![8, 0] ![1, 512]
      inb_S31x512_S1x512_8_0)) (WIN j v5 16) (View.ld v6 (Rect.unit ![16, 0] ![1, 512] inb_S31x512_S1x512_16_0)) (WIN j v5 24) (View.ld v6 (Rect.unit ![24,
      0] ![1, 512] inb_S31x512_S1x512_24_0))) (k0_pay13 (WIN j v5 0) (View.ld v6 (Rect.unit ![1, 0] ![1, 512] inb_S31x512_S1x512_1_0))) (WIN j v5 8)
      (View.ld v6 (Rect.unit ![9, 0] ![1, 512] inb_S31x512_S1x512_9_0)) (WIN j v5 16) (View.ld v6 (Rect.unit ![17, 0] ![1, 512] inb_S31x512_S1x512_17_0))
      (WIN j v5 24) (View.ld v6 (Rect.unit ![25, 0] ![1, 512] inb_S31x512_S1x512_25_0))) (k0_pay15 (WIN j v5 0) (View.ld v6 (Rect.unit ![2, 0] ![1, 512]
      inb_S31x512_S1x512_2_0)) (WIN j v5 8) (View.ld v6 (Rect.unit ![10, 0] ![1, 512] inb_S31x512_S1x512_10_0)) (WIN j v5 16) (View.ld v6 (Rect.unit ![18,
      0] ![1, 512] inb_S31x512_S1x512_18_0))) (WIN j v5 24) (View.ld v6 (Rect.unit ![26, 0] ![1, 512] inb_S31x512_S1x512_26_0)) (WIN j v5 0) (View.ld v6
      (Rect.unit ![3, 0] ![1, 512] inb_S31x512_S1x512_3_0)) (WIN j v5 8) (View.ld v6 (Rect.unit ![11, 0] ![1, 512] inb_S31x512_S1x512_11_0)) (WIN j v5 16)
      (View.ld v6 (Rect.unit ![19, 0] ![1, 512] inb_S31x512_S1x512_19_0)) (WIN j v5 24) (View.ld v6 (Rect.unit ![27, 0] ![1, 512] inb_S31x512_S1x512_27_0)))
      (k0_pay17 (WIN j v5 0) (View.ld v6 (Rect.unit ![4, 0] ![1, 512] inb_S31x512_S1x512_4_0))) (WIN j v5 8) (View.ld v6 (Rect.unit ![12, 0] ![1, 512]
      inb_S31x512_S1x512_12_0)) (WIN j v5 16) (View.ld v6 (Rect.unit ![20, 0] ![1, 512] inb_S31x512_S1x512_20_0)) (WIN j v5 24) (View.ld v6 (Rect.unit ![28,
      0] ![1, 512] inb_S31x512_S1x512_28_0))) (k0_pay19 (WIN j v5 0) (View.ld v6 (Rect.unit ![5, 0] ![1, 512] inb_S31x512_S1x512_5_0)) (WIN j v5 8) (View.ld
      v6 (Rect.unit ![13, 0] ![1, 512] inb_S31x512_S1x512_13_0)) (WIN j v5 16) (View.ld v6 (Rect.unit ![21, 0] ![1, 512] inb_S31x512_S1x512_21_0))) (WIN j
      v5 24) (k0_pay20 (View.ld v6 (Rect.unit ![29, 0] ![1, 512] inb_S31x512_S1x512_29_0))) (WIN j v5 0) (View.ld v6 (Rect.unit ![6, 0] ![1, 512]
      inb_S31x512_S1x512_6_0)) (WIN j v5 8) (View.ld v6 (Rect.unit ![14, 0] ![1, 512] inb_S31x512_S1x512_14_0)) (WIN j v5 16) (View.ld v6 (Rect.unit ![22,
      0] ![1, 512] inb_S31x512_S1x512_22_0)) (WIN j v5 24) (View.ld v6 (Rect.unit ![30, 0] ![1, 512] inb_S31x512_S1x512_30_0)) r q = conv j v5 v6 v7 r q := by
  unfold tail conv
  simp only [show ∀ o, WIN j v5 o = fun y => win j v5 ((y 0).val + o) (y 1) from fun _ => rfl]
  generalize win j v5 = f
  open_payloads
  pointwise []
  simp only [rot r 519 1 rfl (by decide), rot r 518 2 rfl (by decide), rot r 517 3 rfl (by decide), rot r 516 4 rfl (by decide),
    rot r 515 5 rfl (by decide)]
  simp only [sum31, Nat.add_assoc, Nat.reduceAdd,
    show ((0 : Fin 31) : ℕ) = 0 from rfl, show ((1 : Fin 31) : ℕ) = 1 from rfl, show ((2 : Fin 31) : ℕ) = 2 from rfl, show ((3 : Fin 31) : ℕ) = 3 from rfl, show ((4 : Fin 31) : ℕ) = 4 from rfl, show ((5 : Fin 31) : ℕ) = 5 from rfl, show ((6 : Fin 31) : ℕ) = 6 from rfl, show ((7 : Fin 31) : ℕ) = 7 from rfl, show ((8 : Fin 31) : ℕ) = 8 from rfl, show ((9 : Fin 31) : ℕ) = 9 from rfl, show ((10 : Fin 31) : ℕ) = 10 from rfl, show ((11 : Fin 31) : ℕ) = 11 from rfl, show ((12 : Fin 31) : ℕ) = 12 from rfl, show ((13 : Fin 31) : ℕ) = 13 from rfl, show ((14 : Fin 31) : ℕ) = 14 from rfl, show ((15 : Fin 31) : ℕ) = 15 from rfl, show ((16 : Fin 31) : ℕ) = 16 from rfl, show ((17 : Fin 31) : ℕ) = 17 from rfl, show ((18 : Fin 31) : ℕ) = 18 from rfl, show ((19 : Fin 31) : ℕ) = 19 from rfl, show ((20 : Fin 31) : ℕ) = 20 from rfl, show ((21 : Fin 31) : ℕ) = 21 from rfl, show ((22 : Fin 31) : ℕ) = 22 from rfl, show ((23 : Fin 31) : ℕ) = 23 from rfl, show ((24 : Fin 31) : ℕ) = 24 from rfl, show ((25 : Fin 31) : ℕ) = 25 from rfl, show ((26 : Fin 31) : ℕ) = 26 from rfl, show ((27 : Fin 31) : ℕ) = 27 from rfl, show ((28 : Fin 31) : ℕ) = 28 from rfl, show ((29 : Fin 31) : ℕ) = 29 from rfl, show ((30 : Fin 31) : ℕ) = 30 from rfl]
  change f (r.val + 8) q * v6 (ix2 7 q) + f (r.val + 16) q * v6 (ix2 15 q) + f (r.val + 24) q * v6 (ix2 23 q) + v7 (ix2 0 q) + (f (r.val + 1) q * v6 (ix2 0 q)
      + f (r.val + 9) q * v6 (ix2 8 q) + f (r.val + 17) q * v6 (ix2 16 q) + f (r.val + 25) q * v6 (ix2 24 q)) + (f (r.val + 2) q * v6 (ix2 1 q) + f (r.val +
      10) q * v6 (ix2 9 q) + f (r.val + 18) q * v6 (ix2 17 q) + f (r.val + 26) q * v6 (ix2 25 q)) + (f (r.val + 3) q * v6 (ix2 2 q) + f (r.val + 11) q * v6
      (ix2 10 q) + f (r.val + 19) q * v6 (ix2 18 q) + f (r.val + 27) q * v6 (ix2 26 q)) + (f (r.val + 4) q * v6 (ix2 3 q) + f (r.val + 12) q * v6 (ix2 11 q)
      + f (r.val + 20) q * v6 (ix2 19 q) + f (r.val + 28) q * v6 (ix2 27 q)) + (f (r.val + 5) q * v6 (ix2 4 q) + f (r.val + 13) q * v6 (ix2 12 q) + f (r.val
      + 21) q * v6 (ix2 20 q) + f (r.val + 29) q * v6 (ix2 28 q)) + (f (r.val + 6) q * v6 (ix2 5 q) + f (r.val + 14) q * v6 (ix2 13 q) + f (r.val + 22) q *
      v6 (ix2 21 q) + f (r.val + 30) q * v6 (ix2 29 q)) + (f (r.val + 7) q * v6 (ix2 6 q) + f (r.val + 15) q * v6 (ix2 14 q) + f (r.val + 23) q * v6 (ix2 22
      q) + f (r.val + 31) q * v6 (ix2 30 q)) =
      f (r.val + 1) q * v6 (ix2 0 q) + f (r.val + 2) q * v6 (ix2 1 q) + f (r.val + 3) q * v6 (ix2 2 q) + f (r.val + 4) q * v6 (ix2 3 q) + f (r.val + 5) q *
      v6 (ix2 4 q) + f (r.val + 6) q * v6 (ix2 5 q) + f (r.val + 7) q * v6 (ix2 6 q) + f (r.val + 8) q * v6 (ix2 7 q) + f (r.val + 9) q * v6 (ix2 8 q) + f
      (r.val + 10) q * v6 (ix2 9 q) + f (r.val + 11) q * v6 (ix2 10 q) + f (r.val + 12) q * v6 (ix2 11 q) + f (r.val + 13) q * v6 (ix2 12 q) + f (r.val +
      14) q * v6 (ix2 13 q) + f (r.val + 15) q * v6 (ix2 14 q) + f (r.val + 16) q * v6 (ix2 15 q) + f (r.val + 17) q * v6 (ix2 16 q) + f (r.val + 18) q * v6
      (ix2 17 q) + f (r.val + 19) q * v6 (ix2 18 q) + f (r.val + 20) q * v6 (ix2 19 q) + f (r.val + 21) q * v6 (ix2 20 q) + f (r.val + 22) q * v6 (ix2 21 q)
      + f (r.val + 23) q * v6 (ix2 22 q) + f (r.val + 24) q * v6 (ix2 23 q) + f (r.val + 25) q * v6 (ix2 24 q) + f (r.val + 26) q * v6 (ix2 25 q) + f (r.val
      + 27) q * v6 (ix2 26 q) + f (r.val + 28) q * v6 (ix2 27 q) + f (r.val + 29) q * v6 (ix2 28 q) + f (r.val + 30) q * v6 (ix2 29 q) + f (r.val + 31) q *
      v6 (ix2 30 q) + v7 (ix2 0 q)
  ac_rfl

/-- The convolution branch's activation: the silu of the layer norm of the convolution. -/
theorem cv_eq (j : Fin 8) (v5 : Vec Ideal S1x4096x512 .bf16) (v6 : Vec Ideal S31x512 .f32) (v7 : Vec Ideal S1x512 .f32) (v8 v9 : Vec Ideal S1x512 .f32) :
    (k0_pay23 (k0_pay21 (k0_pay18 (k0_pay16 (k0_pay14 (k0_pay12 (k0_pay11 (WIN j v5 8) (View.ld v6 (Rect.unit ![7, 0] ![1, 512] inb_S31x512_S1x512_7_0))
      (WIN j v5 16) (View.ld v6 (Rect.unit ![15, 0] ![1, 512] inb_S31x512_S1x512_15_0))) (WIN j v5 24) (View.ld v6 (Rect.unit ![23, 0] ![1, 512]
      inb_S31x512_S1x512_23_0)) v7 (WIN j v5 0) (View.ld v6 (Rect.unit ![0, 0] ![1, 512] inb_S31x512_S1x512_0_0)) (WIN j v5 8) (View.ld v6 (Rect.unit ![8,
      0] ![1, 512] inb_S31x512_S1x512_8_0)) (WIN j v5 16) (View.ld v6 (Rect.unit ![16, 0] ![1, 512] inb_S31x512_S1x512_16_0)) (WIN j v5 24) (View.ld v6
      (Rect.unit ![24, 0] ![1, 512] inb_S31x512_S1x512_24_0))) (k0_pay13 (WIN j v5 0) (View.ld v6 (Rect.unit ![1, 0] ![1, 512] inb_S31x512_S1x512_1_0)))
      (WIN j v5 8) (View.ld v6 (Rect.unit ![9, 0] ![1, 512] inb_S31x512_S1x512_9_0)) (WIN j v5 16) (View.ld v6 (Rect.unit ![17, 0] ![1, 512]
      inb_S31x512_S1x512_17_0)) (WIN j v5 24) (View.ld v6 (Rect.unit ![25, 0] ![1, 512] inb_S31x512_S1x512_25_0))) (k0_pay15 (WIN j v5 0) (View.ld v6
      (Rect.unit ![2, 0] ![1, 512] inb_S31x512_S1x512_2_0)) (WIN j v5 8) (View.ld v6 (Rect.unit ![10, 0] ![1, 512] inb_S31x512_S1x512_10_0)) (WIN j v5 16)
      (View.ld v6 (Rect.unit ![18, 0] ![1, 512] inb_S31x512_S1x512_18_0))) (WIN j v5 24) (View.ld v6 (Rect.unit ![26, 0] ![1, 512] inb_S31x512_S1x512_26_0))
      (WIN j v5 0) (View.ld v6 (Rect.unit ![3, 0] ![1, 512] inb_S31x512_S1x512_3_0)) (WIN j v5 8) (View.ld v6 (Rect.unit ![11, 0] ![1, 512]
      inb_S31x512_S1x512_11_0)) (WIN j v5 16) (View.ld v6 (Rect.unit ![19, 0] ![1, 512] inb_S31x512_S1x512_19_0)) (WIN j v5 24) (View.ld v6 (Rect.unit ![27,
      0] ![1, 512] inb_S31x512_S1x512_27_0))) (k0_pay17 (WIN j v5 0) (View.ld v6 (Rect.unit ![4, 0] ![1, 512] inb_S31x512_S1x512_4_0))) (WIN j v5 8)
      (View.ld v6 (Rect.unit ![12, 0] ![1, 512] inb_S31x512_S1x512_12_0)) (WIN j v5 16) (View.ld v6 (Rect.unit ![20, 0] ![1, 512] inb_S31x512_S1x512_20_0))
      (WIN j v5 24) (View.ld v6 (Rect.unit ![28, 0] ![1, 512] inb_S31x512_S1x512_28_0))) (k0_pay19 (WIN j v5 0) (View.ld v6 (Rect.unit ![5, 0] ![1, 512]
      inb_S31x512_S1x512_5_0)) (WIN j v5 8) (View.ld v6 (Rect.unit ![13, 0] ![1, 512] inb_S31x512_S1x512_13_0)) (WIN j v5 16) (View.ld v6 (Rect.unit ![21,
      0] ![1, 512] inb_S31x512_S1x512_21_0))) (WIN j v5 24) (k0_pay20 (View.ld v6 (Rect.unit ![29, 0] ![1, 512] inb_S31x512_S1x512_29_0))) (WIN j v5 0)
      (View.ld v6 (Rect.unit ![6, 0] ![1, 512] inb_S31x512_S1x512_6_0)) (WIN j v5 8) (View.ld v6 (Rect.unit ![14, 0] ![1, 512] inb_S31x512_S1x512_14_0))
      (WIN j v5 16) (View.ld v6 (Rect.unit ![22, 0] ![1, 512] inb_S31x512_S1x512_22_0)) (WIN j v5 24) (View.ld v6 (Rect.unit ![30, 0] ![1, 512]
      inb_S31x512_S1x512_30_0))) (k0_pay22 (k0_pay18 (k0_pay16 (k0_pay14 (k0_pay12 (k0_pay11 (WIN j v5 8) (View.ld v6 (Rect.unit ![7, 0] ![1, 512]
      inb_S31x512_S1x512_7_0)) (WIN j v5 16) (View.ld v6 (Rect.unit ![15, 0] ![1, 512] inb_S31x512_S1x512_15_0))) (WIN j v5 24) (View.ld v6 (Rect.unit ![23,
      0] ![1, 512] inb_S31x512_S1x512_23_0)) v7 (WIN j v5 0) (View.ld v6 (Rect.unit ![0, 0] ![1, 512] inb_S31x512_S1x512_0_0)) (WIN j v5 8) (View.ld v6
      (Rect.unit ![8, 0] ![1, 512] inb_S31x512_S1x512_8_0)) (WIN j v5 16) (View.ld v6 (Rect.unit ![16, 0] ![1, 512] inb_S31x512_S1x512_16_0)) (WIN j v5 24)
      (View.ld v6 (Rect.unit ![24, 0] ![1, 512] inb_S31x512_S1x512_24_0))) (k0_pay13 (WIN j v5 0) (View.ld v6 (Rect.unit ![1, 0] ![1, 512]
      inb_S31x512_S1x512_1_0))) (WIN j v5 8) (View.ld v6 (Rect.unit ![9, 0] ![1, 512] inb_S31x512_S1x512_9_0)) (WIN j v5 16) (View.ld v6 (Rect.unit ![17, 0]
      ![1, 512] inb_S31x512_S1x512_17_0)) (WIN j v5 24) (View.ld v6 (Rect.unit ![25, 0] ![1, 512] inb_S31x512_S1x512_25_0))) (k0_pay15 (WIN j v5 0) (View.ld
      v6 (Rect.unit ![2, 0] ![1, 512] inb_S31x512_S1x512_2_0)) (WIN j v5 8) (View.ld v6 (Rect.unit ![10, 0] ![1, 512] inb_S31x512_S1x512_10_0)) (WIN j v5
      16) (View.ld v6 (Rect.unit ![18, 0] ![1, 512] inb_S31x512_S1x512_18_0))) (WIN j v5 24) (View.ld v6 (Rect.unit ![26, 0] ![1, 512]
      inb_S31x512_S1x512_26_0)) (WIN j v5 0) (View.ld v6 (Rect.unit ![3, 0] ![1, 512] inb_S31x512_S1x512_3_0)) (WIN j v5 8) (View.ld v6 (Rect.unit ![11, 0]
      ![1, 512] inb_S31x512_S1x512_11_0)) (WIN j v5 16) (View.ld v6 (Rect.unit ![19, 0] ![1, 512] inb_S31x512_S1x512_19_0)) (WIN j v5 24) (View.ld v6
      (Rect.unit ![27, 0] ![1, 512] inb_S31x512_S1x512_27_0))) (k0_pay17 (WIN j v5 0) (View.ld v6 (Rect.unit ![4, 0] ![1, 512] inb_S31x512_S1x512_4_0)))
      (WIN j v5 8) (View.ld v6 (Rect.unit ![12, 0] ![1, 512] inb_S31x512_S1x512_12_0)) (WIN j v5 16) (View.ld v6 (Rect.unit ![20, 0] ![1, 512]
      inb_S31x512_S1x512_20_0)) (WIN j v5 24) (View.ld v6 (Rect.unit ![28, 0] ![1, 512] inb_S31x512_S1x512_28_0))) (k0_pay19 (WIN j v5 0) (View.ld v6
      (Rect.unit ![5, 0] ![1, 512] inb_S31x512_S1x512_5_0)) (WIN j v5 8) (View.ld v6 (Rect.unit ![13, 0] ![1, 512] inb_S31x512_S1x512_13_0)) (WIN j v5 16)
      (View.ld v6 (Rect.unit ![21, 0] ![1, 512] inb_S31x512_S1x512_21_0))) (WIN j v5 24) (k0_pay20 (View.ld v6 (Rect.unit ![29, 0] ![1, 512]
      inb_S31x512_S1x512_29_0))) (WIN j v5 0) (View.ld v6 (Rect.unit ![6, 0] ![1, 512] inb_S31x512_S1x512_6_0)) (WIN j v5 8) (View.ld v6 (Rect.unit ![14, 0]
      ![1, 512] inb_S31x512_S1x512_14_0)) (WIN j v5 16) (View.ld v6 (Rect.unit ![22, 0] ![1, 512] inb_S31x512_S1x512_22_0)) (WIN j v5 24) (View.ld v6
      (Rect.unit ![30, 0] ![1, 512] inb_S31x512_S1x512_30_0))) v8 v9) =
    (fun y => silu (ln (conv j v5 v6 v7 (y 0)) (fun q => v8 (ix2 0 q)) (fun q => v9 (ix2 0 q)) (y 1)) : Vec Ideal S512x512 .bf16) := by
  have h : k0_pay21 (k0_pay18 (k0_pay16 (k0_pay14 (k0_pay12 (k0_pay11 (WIN j v5 8) (View.ld v6 (Rect.unit ![7, 0] ![1, 512] inb_S31x512_S1x512_7_0)) (WIN j v5
      16) (View.ld v6 (Rect.unit ![15, 0] ![1, 512] inb_S31x512_S1x512_15_0))) (WIN j v5 24) (View.ld v6 (Rect.unit ![23, 0] ![1, 512]
      inb_S31x512_S1x512_23_0)) v7 (WIN j v5 0) (View.ld v6 (Rect.unit ![0, 0] ![1, 512] inb_S31x512_S1x512_0_0)) (WIN j v5 8) (View.ld v6 (Rect.unit ![8,
      0] ![1, 512] inb_S31x512_S1x512_8_0)) (WIN j v5 16) (View.ld v6 (Rect.unit ![16, 0] ![1, 512] inb_S31x512_S1x512_16_0)) (WIN j v5 24) (View.ld v6
      (Rect.unit ![24, 0] ![1, 512] inb_S31x512_S1x512_24_0))) (k0_pay13 (WIN j v5 0) (View.ld v6 (Rect.unit ![1, 0] ![1, 512] inb_S31x512_S1x512_1_0)))
      (WIN j v5 8) (View.ld v6 (Rect.unit ![9, 0] ![1, 512] inb_S31x512_S1x512_9_0)) (WIN j v5 16) (View.ld v6 (Rect.unit ![17, 0] ![1, 512]
      inb_S31x512_S1x512_17_0)) (WIN j v5 24) (View.ld v6 (Rect.unit ![25, 0] ![1, 512] inb_S31x512_S1x512_25_0))) (k0_pay15 (WIN j v5 0) (View.ld v6
      (Rect.unit ![2, 0] ![1, 512] inb_S31x512_S1x512_2_0)) (WIN j v5 8) (View.ld v6 (Rect.unit ![10, 0] ![1, 512] inb_S31x512_S1x512_10_0)) (WIN j v5 16)
      (View.ld v6 (Rect.unit ![18, 0] ![1, 512] inb_S31x512_S1x512_18_0))) (WIN j v5 24) (View.ld v6 (Rect.unit ![26, 0] ![1, 512] inb_S31x512_S1x512_26_0))
      (WIN j v5 0) (View.ld v6 (Rect.unit ![3, 0] ![1, 512] inb_S31x512_S1x512_3_0)) (WIN j v5 8) (View.ld v6 (Rect.unit ![11, 0] ![1, 512]
      inb_S31x512_S1x512_11_0)) (WIN j v5 16) (View.ld v6 (Rect.unit ![19, 0] ![1, 512] inb_S31x512_S1x512_19_0)) (WIN j v5 24) (View.ld v6 (Rect.unit ![27,
      0] ![1, 512] inb_S31x512_S1x512_27_0))) (k0_pay17 (WIN j v5 0) (View.ld v6 (Rect.unit ![4, 0] ![1, 512] inb_S31x512_S1x512_4_0))) (WIN j v5 8)
      (View.ld v6 (Rect.unit ![12, 0] ![1, 512] inb_S31x512_S1x512_12_0)) (WIN j v5 16) (View.ld v6 (Rect.unit ![20, 0] ![1, 512] inb_S31x512_S1x512_20_0))
      (WIN j v5 24) (View.ld v6 (Rect.unit ![28, 0] ![1, 512] inb_S31x512_S1x512_28_0))) (k0_pay19 (WIN j v5 0) (View.ld v6 (Rect.unit ![5, 0] ![1, 512]
      inb_S31x512_S1x512_5_0)) (WIN j v5 8) (View.ld v6 (Rect.unit ![13, 0] ![1, 512] inb_S31x512_S1x512_13_0)) (WIN j v5 16) (View.ld v6 (Rect.unit ![21,
      0] ![1, 512] inb_S31x512_S1x512_21_0))) (WIN j v5 24) (k0_pay20 (View.ld v6 (Rect.unit ![29, 0] ![1, 512] inb_S31x512_S1x512_29_0))) (WIN j v5 0)
      (View.ld v6 (Rect.unit ![6, 0] ![1, 512] inb_S31x512_S1x512_6_0)) (WIN j v5 8) (View.ld v6 (Rect.unit ![14, 0] ![1, 512] inb_S31x512_S1x512_14_0))
      (WIN j v5 16) (View.ld v6 (Rect.unit ![22, 0] ![1, 512] inb_S31x512_S1x512_22_0)) (WIN j v5 24) (View.ld v6 (Rect.unit ![30, 0] ![1, 512]
      inb_S31x512_S1x512_30_0)) =
      (fun y => cen (conv j v5 v6 v7 (y 0)) (y 1) : FVec Ideal S512x512 .f32) := by
    funext y
    rw [pay21_at]
    exact congrArg (fun f => cen f (y 1)) (funext fun q => conv_eq j v5 v6 v7 (y 0) q)
  funext y
  rw [pay23_at, pay22_at, h]
  rfl

end Cert.MixerIdeal.Hand

end
-- ==== Proof.MixerPure.lean ====
/- The mixer kernel's arithmetic on one block of 512 rows: the norms, the gated merge of the two branches and the output product. -/
module

public import proofs.«01_k».proof.Proof.MixerConv

@[expose] public section

set_option maxRecDepth 16384
set_option maxHeartbeats 4000000

noncomputable section

namespace Cert.MixerIdeal.Hand

open Idealize.ShloMosaic Idealize.SL.Sem Cert.MixerIdeal Cert.MixerIdeal.Gen

/-- The root-mean-square norm of a row with gain `g`, scale `sc` and shift `sh`. -/
def norm (x g sc sh : Fin 1024 → EReal) (q : Fin 1024) : EReal :=
  x q * Ideal.rsqrt (Ideal.div (∑ k, x k * x k) (Ideal.ofBits FTy.f32 0x44800000#32) + Ideal.ofBits FTy.f32 0x358637BD#32) *
    (g q * (1 + sc q)) + sh q

/-- A gate: the logistic of an affine form of the normed row. -/
def gate (u : Fin 1024 → EReal) (w : Fin 1024 → Fin 2048 → EReal) (b : Fin 2048 → EReal) (e : Fin 2048) : EReal :=
  Ideal.logistic ((∑ k, u k * w k e) + b e)

/-- An affine form of a branch's row. -/
def aff (a : Fin 512 → EReal) (w : Fin 512 → Fin 1024 → EReal) (b : Fin 1024 → EReal) (e : Fin 1024) : EReal :=
  (∑ k, a k * w k e) + b e

/-- The gated sum of the convolution branch `a` and the Fourier branch `f`. -/
def merged (u : Fin 1024 → EReal) (w : Fin 1024 → Fin 2048 → EReal) (b : Fin 2048 → EReal)
    (a : Fin 512 → EReal) (wa : Fin 512 → Fin 1024 → EReal) (ba : Fin 1024 → EReal)
    (f : Fin 512 → EReal) (wf : Fin 512 → Fin 1024 → EReal) (bf : Fin 1024 → EReal) (e : Fin 1024) : EReal :=
  gate u w b ⟨e.val, by omega⟩ * aff a wa ba e + gate u w b ⟨1024 + e.val, by omega⟩ * aff f wf bf e

/-- A sum of 1024 terms is the sum of its two halves. -/
theorem split (f : Fin 1024 → EReal) : ∑ e, f e = ∑ e : Fin 512, f ⟨e.val, by omega⟩ + ∑ e : Fin 512, f ⟨512 + e.val, by omega⟩ :=
  Fin.sum_univ_add (a := 512) (b := 512) f

/-- The first norm on a block. -/
theorem ub_at (v0 : Vec Ideal S1x512x1024 .f32) (v1 : Vec Ideal S1x6x1024 .f32) (v2 : Vec Ideal S1x1024 .f32) (r : Fin 512) (q : Fin 1024) :
    k0_pay10 (k0_pay4 v1) v0 v2 (ix2 r q) = norm (fun k => v0 (ix3 0 r k)) (fun k => v2 (ix2 0 k)) (fun k => v1 (ix3 0 1 k)) (fun k => v1 (ix3 0 0 k)) q := by
  open_payloads
  pointwise [norm]

/-- The block's first result before it is reshaped: the row and the gated output product. -/
theorem hid_at (UB : FVec Ideal S512x1024 .bf16) (CV : FVec Ideal S512x512 .bf16) (v0 : Vec Ideal S1x512x1024 .f32) (v1 : Vec Ideal S1x6x1024 .f32)
    (v3 : Vec Ideal S1024x2048 .bf16) (v4 : Vec Ideal S1x2048 .f32) (v10 : Vec Ideal S512x1024 .bf16) (v11 : Vec Ideal S1x1024 .f32)
    (v12 : Vec Ideal S1x512x512 .bf16) (v13 : Vec Ideal S512x1024 .bf16) (v14 : Vec Ideal S1x1024 .f32) (v15 : Vec Ideal S1024x1024 .bf16)
    (v16 : Vec Ideal S1x1024 .f32) (r : Fin 512) (q : Fin 1024) :
    k0_pay32 (k0_pay4 v1) (k0_pay9 v0) CV (k0_pay24 v12) (k0_pay29 CV (k0_pay24 v12) (k0_pay25 v16) (k0_pay26 UB (View.ld v3 (Rect.unit ![0, 0] ![1024, 512]
      inb_S1024x2048_S1024x512_0_0)) (View.ld v4 (Rect.unit ![0, 0] ![1, 512] inb_S1x2048_S1x512_0_0))) (k0_pay27 UB (View.ld v3 (Rect.unit ![0, 1024]
      ![1024, 512] inb_S1024x2048_S1024x512_0_1024)) (View.ld v4 (Rect.unit ![0, 1024] ![1, 512] inb_S1x2048_S1x512_0_1024))) (k0_pay28 (View.ld v10
      (Rect.unit ![0, 0] ![512, 512] inb_S512x1024_S512x512_0_0))) (View.ld v11 (Rect.unit ![0, 0] ![1, 512] inb_S1x1024_S1x512_0_0)) (View.ld v13
      (Rect.unit ![0, 0] ![512, 512] inb_S512x1024_S512x512_0_0)) (View.ld v14 (Rect.unit ![0, 0] ![1, 512] inb_S1x1024_S1x512_0_0)) (View.ld v15 (Rect.unit
      ![0, 0] ![512, 1024] inb_S1024x1024_S512x1024_0_0))) (k0_pay30 UB (View.ld v3 (Rect.unit ![0, 512] ![1024, 512] inb_S1024x2048_S1024x512_0_512))
      (View.ld v4 (Rect.unit ![0, 512] ![1, 512] inb_S1x2048_S1x512_0_512))) (k0_pay31 UB (View.ld v3 (Rect.unit ![0, 1536] ![1024, 512]
      inb_S1024x2048_S1024x512_0_1536)) (View.ld v4 (Rect.unit ![0, 1536] ![1, 512] inb_S1x2048_S1x512_0_1536))) (View.ld v10 (Rect.unit ![0, 512] ![512,
      512] inb_S512x1024_S512x512_0_512)) (View.ld v11 (Rect.unit ![0, 512] ![1, 512] inb_S1x1024_S1x512_0_512)) (View.ld v13 (Rect.unit ![0, 512] ![512,
      512] inb_S512x1024_S512x512_0_512)) (View.ld v14 (Rect.unit ![0, 512] ![1, 512] inb_S1x1024_S1x512_0_512)) (View.ld v15 (Rect.unit ![512, 0] ![512,
      1024] inb_S1024x1024_S512x1024_512_0)) (ix2 r q) =
      v0 (ix3 0 r q) + v1 (ix3 0 2 q) *
        ((∑ e : Fin 1024, merged (fun k => UB (ix2 r k)) (fun k e => v3 (ix2 k e)) (fun e => v4 (ix2 0 e))
            (fun k => CV (ix2 r k)) (fun k e => v10 (ix2 k e)) (fun e => v11 (ix2 0 e))
            (fun k => v12 (ix3 0 r k)) (fun k e => v13 (ix2 k e)) (fun e => v14 (ix2 0 e)) e * v15 (ix2 e q)) + v16 (ix2 0 q)) := by
  open_payloads
  pointwise []
  rw [split, add_assoc, add_comm (v16 (ix2 0 q))]
  simp only [merged, gate, aff, ← Nat.add_assoc, Nat.reduceAdd]

/-- The second norm's mean square and its epsilon. -/
theorem ms_eq (v3 : FVec Ideal S6x1024 .f32) (v38 : FVec Ideal S512x1024 .f32) (v260 v262 : FVec Ideal S512x512 .bf16)
    (v303 : FVec Ideal S512x1024 .f32) (v311 v319 : FVec Ideal S512x512 .f32) (v320 : Vec Ideal S512x512 .bf16) (v323 : Vec Ideal S1x512 .f32)
    (v327 : Vec Ideal S512x512 .bf16) (v330 : Vec Ideal S1x512 .f32) (v338 : Vec Ideal S512x1024 .bf16) :
    k0_pay37 v3 v38 v260 v262 v303 v311 v319 v320 v323 v327 v330 v338 =
      (fun y => Ideal.div (∑ k : Fin 1024, k0_pay32 v3 v38 v260 v262 v303 v311 v319 v320 v323 v327 v330 v338 (ix2 (y 0) k) *
          k0_pay32 v3 v38 v260 v262 v303 v311 v319 v320 v323 v327 v330 v338 (ix2 (y 0) k)) (Ideal.ofBits FTy.f32 0x44800000#32) +
        Ideal.ofBits FTy.f32 0x358637BD#32 : FVec Ideal S512x1 .f32) := by
  unfold k0_pay37
  generalize k0_pay32 v3 v38 v260 v262 v303 v311 v319 v320 v323 v327 v330 v338 = u
  funext y
  pointwise []

/-- The first result's block is its rows. -/
theorem h_at (v3 : FVec Ideal S6x1024 .f32) (v38 : FVec Ideal S512x1024 .f32) (v260 v262 : FVec Ideal S512x512 .bf16)
    (v303 : FVec Ideal S512x1024 .f32) (v311 v319 : FVec Ideal S512x512 .f32) (v320 : Vec Ideal S512x512 .bf16) (v323 : Vec Ideal S1x512 .f32)
    (v327 : Vec Ideal S512x512 .bf16) (v330 : Vec Ideal S1x512 .f32) (v338 : Vec Ideal S512x1024 .bf16) (y : S1x512x1024.Idx) :
    k0_pay33 v3 v38 v260 v262 v303 v311 v319 v320 v323 v327 v330 v338 y =
      k0_pay32 v3 v38 v260 v262 v303 v311 v319 v320 v323 v327 v330 v338 (ix2 (y 1) (y 2)) := by
  unfold k0_pay33
  generalize k0_pay32 v3 v38 v260 v262 v303 v311 v319 v320 v323 v327 v330 v338 = u
  pointwise []

/-- The second norm on a block of rows `x`. -/
theorem u2_at (x : FVec Ideal S512x1024 .f32) (v1 : Vec Ideal S1x6x1024 .f32) (v17 : Vec Ideal S1x1024 .f32) (y : S1x512x1024.Idx) :
    k0_pay2 x (k0_pay34 v17) (k0_pay35 (k0_pay4 v1)) (k0_pay36 (k0_pay4 v1))
      (fun y => Ideal.div (∑ k : Fin 1024, x (ix2 (y 0) k) * x (ix2 (y 0) k)) (Ideal.ofBits FTy.f32 0x44800000#32) +
        Ideal.ofBits FTy.f32 0x358637BD#32 : FVec Ideal S512x1 .f32) y =
      norm (fun k => x (ix2 (y 1) k)) (fun k => v17 (ix2 0 k)) (fun k => v1 (ix3 0 4 k)) (fun k => v1 (ix3 0 3 k)) (y 2) := by
  open_payloads
  pointwise [norm]

/-- The router's logits on a block of rows `x`. -/
theorem lg_at (x : FVec Ideal S512x1024 .f32) (v1 : Vec Ideal S1x6x1024 .f32) (v17 : Vec Ideal S1x1024 .f32) (v18 : Vec Ideal S1024x128 .bf16)
    (y : S1x512x128.Idx) :
    k0_pay3 x (k0_pay34 v17) (k0_pay35 (k0_pay4 v1)) (k0_pay36 (k0_pay4 v1))
      (fun y => Ideal.div (∑ k : Fin 1024, x (ix2 (y 0) k) * x (ix2 (y 0) k)) (Ideal.ofBits FTy.f32 0x44800000#32) +
        Ideal.ofBits FTy.f32 0x358637BD#32 : FVec Ideal S512x1 .f32) v18 y =
      ∑ q : Fin 1024, norm (fun k => x (ix2 (y 1) k)) (fun k => v17 (ix2 0 k)) (fun k => v1 (ix3 0 4 k)) (fun k => v1 (ix3 0 3 k)) q *
        v18 (ix2 q (y 2)) := by
  open_payloads
  pointwise [norm]

end Cert.MixerIdeal.Hand

end
-- ==== Proof.MixerRouter.lean ====
/- The router's weights as the mixer kernel's host code pads them: sixteen columns set into a zero matrix of 128. -/
module

public import proofs.«01_k».proof.Proof.MixerWin
public import Idealize.ShloMosaic.Lib.Routing.OpsOne

@[expose] public section

set_option maxRecDepth 16384
set_option maxHeartbeats 2000000

noncomputable section

namespace Cert.MixerIdeal.Hand

open Idealize.ShloMosaic Idealize.SL.Sem Cert.MixerIdeal Cert.MixerIdeal.Gen

/-- Where column `e` of row `k` is set when the index word is zero: at the same row and column. -/
theorem lands (i : IVec S1 32) (hi : ∀ y, (i y).toInt = 0) (k : Fin 1024) (e : Fin 16) (r : Fin 1024) (l : Fin 128) :
    scatter_S1024x128_S1_S1024x16_01_n_1_0.resultIdx? (ix2 k e) i = some (ix2 r l) ↔ k.val = r.val ∧ e.val = l.val := by
  have w0 : scatter_S1024x128_S1_S1024x16_01_n_1_0.window (ix2 k e) 0 = k.val := by
    unfold ScatterDims.window
    rw [dif_pos (by decide)]
    rfl
  have w1 : scatter_S1024x128_S1_S1024x16_01_n_1_0.window (ix2 k e) 1 = e.val := by
    unfold ScatterDims.window
    rw [dif_pos (by decide)]
    rfl
  have s0 : ∀ a, scatter_S1024x128_S1_S1024x16_01_n_1_0.start (ix2 k e) i a = 0 := by
    intro a
    unfold ScatterDims.start
    split
    · exact hi _
    · rfl
  refine (Routing.resultIdx?_ix2 (R := 1024) (C := 128) scatter_S1024x128_S1_S1024x16_01_n_1_0 (ix2 k e) i r l).trans ?_
  rw [s0, s0, w0, w1]
  omega

/-- The padded weights at row `r` and column `l`. -/
theorem padded (x : Vec Ideal S1024x128 .bf16) (i : IVec S1 32) (hi : ∀ y, (i y).toInt = 0) (u : Vec Ideal S1024x16 .bf16)
    (r : Fin 1024) (l : Fin 128) :
    Host.scatter scatter_S1024x128_S1_S1024x16_01_n_1_0 (fun _ b => b) x i u (ix2 r l) =
      if h : l.val < 16 then u (ix2 r ⟨l.val, h⟩) else x (ix2 r l) := by
  have key : ∀ k : S1024x16.Idx, scatter_S1024x128_S1_S1024x16_01_n_1_0.resultIdx? k i = some (ix2 r l) → (k 0).val = r.val ∧ (k 1).val = l.val :=
    fun k hk => (lands i hi (k 0) (k 1) r l).1 ((congrArg (fun t => scatter_S1024x128_S1_S1024x16_01_n_1_0.resultIdx? t i) (ValueIdx.eq_ix2 k).symm).trans hk)
  split
  next h =>
    refine Routing.scatter_set_hit _ x i u _ _ (fun k hk => ?_) (ix2 r ⟨l.val, h⟩) ((lands i hi r ⟨l.val, h⟩ r l).2 ⟨rfl, rfl⟩)
    obtain ⟨a, b⟩ := key k hk
    rw [ValueIdx.eq_ix2 k]
    exact congrArg₂ (fun p q => u (ix2 p q)) (Fin.ext a) (Fin.ext b)
  next h =>
    refine Routing.scatter_set_miss _ x i u _ fun k hk => h ?_
    have := (key k hk).2
    have h16 : (k 1).val < 16 := (k 1).isLt
    omega

end Cert.MixerIdeal.Hand

end
-- ==== Proof.MixerBlocks.lean ====
/- The mixer's three results written out entry by entry, and the kernel's input blocks as entries of its arguments. -/
module

public import proofs.«01_k».proof.Proof.Gen.MixerIdeal.Frame
public import proofs.«01_k».proof.Proof.MixerPure
public import proofs.«01_k».proof.Proof.MixerRouter

@[expose] public section

set_option maxRecDepth 16384
set_option maxHeartbeats 4000000

noncomputable section

namespace Cert.MixerIdeal.Hand

open Idealize.ShloMosaic Idealize.SL.Sem Cert.MixerIdeal Cert.MixerIdeal.Gen

/-- The mixer's arguments. -/
structure Args where
  x : Vec Ideal S8x4096x1024 .f32
  md : Vec Ideal S8x6x1024 .f32
  g1 : Vec Ideal S1024 .f32
  wi : Vec Ideal S1024x3584 .f32
  bi : Vec Ideal S3584 .f32
  v : Vec Ideal S8x4096x512 .bf16
  dw : Vec Ideal S31x512 .f32
  db : Vec Ideal S512 .f32
  lg : Vec Ideal S512 .f32
  lb : Vec Ideal S512 .f32
  wc : Vec Ideal S512x1024 .f32
  bc : Vec Ideal S1024 .f32
  fr : Vec Ideal S8x4096x512 .bf16
  wf : Vec Ideal S512x1024 .f32
  bf : Vec Ideal S1024 .f32
  wo : Vec Ideal S1024x1024 .f32
  bo : Vec Ideal S1024 .f32
  g2 : Vec Ideal S1024 .f32
  rw : Vec Ideal S1024x16 .f32

/-- The first norm at batch element `b` and position `s`. -/
def Args.u (A : Args) (b : Fin 8) (s : Fin 4096) : Fin 1024 → EReal :=
  norm (fun k => A.x (ix3 b s k)) (fun k => A.g1 (ix1 k)) (fun k => A.md (ix3 b 1 k)) (fun k => A.md (ix3 b 0 k))

/-- The convolution's input padded with fifteen rows of zeros before and after: row `a` of channel `q`. -/
def Args.vp (A : Args) (b : Fin 8) (a : ℕ) (q : Fin 512) : EReal :=
  if h : 15 ≤ a ∧ a < 4111 then A.v (ix3 b ⟨a - 15, by omega⟩ q) else 0

/-- The depthwise convolution: 31 taps and the bias. -/
def Args.cv (A : Args) (b : Fin 8) (s : Fin 4096) (q : Fin 512) : EReal :=
  (∑ k : Fin 31, A.vp b (s.val + k.val) q * A.dw (ix2 k q)) + A.db (ix1 q)

/-- The gated sum of the two branches. -/
def Args.mg (A : Args) (b : Fin 8) (s : Fin 4096) : Fin 1024 → EReal :=
  merged (A.u b s) (fun k e => A.wi (ix2 k ⟨1536 + e.val, by omega⟩)) (fun e => A.bi (ix1 ⟨1536 + e.val, by omega⟩))
    (fun k => silu (ln (A.cv b s) (fun q => A.lg (ix1 q)) (fun q => A.lb (ix1 q)) k)) (fun k e => A.wc (ix2 k e)) (fun e => A.bc (ix1 e))
    (fun k => A.fr (ix3 b s k)) (fun k e => A.wf (ix2 k e)) (fun e => A.bf (ix1 e))

/-- The mixed row: the input plus its gated output product. -/
def Args.h (A : Args) (b : Fin 8) (s : Fin 4096) (q : Fin 1024) : EReal :=
  A.x (ix3 b s q) + A.md (ix3 b 2 q) * ((∑ e, A.mg b s e * A.wo (ix2 e q)) + A.bo (ix1 q))

/-- The second norm. -/
def Args.u2 (A : Args) (b : Fin 8) (s : Fin 4096) : Fin 1024 → EReal :=
  norm (A.h b s) (fun k => A.g2 (ix1 k)) (fun k => A.md (ix3 b 4 k)) (fun k => A.md (ix3 b 3 k))

/-- The router's logit of expert `l`, and zero past the sixteenth. -/
def Args.lo (A : Args) (b : Fin 8) (s : Fin 4096) (l : Fin 128) : EReal :=
  if h : l.val < 16 then ∑ k, A.u2 b s k * A.rw (ix2 k ⟨l.val, h⟩) else 0

variable (m : (ℓ : Loc nD τ sig) → Buf (Elt Ideal) ℓ)

/-- The arguments in a memory. -/
def args (c : Dev nD) : Args where
  x := m (c.tc.loc main_arg0)
  md := m (c.tc.loc main_arg1)
  g1 := m (c.tc.loc main_arg2)
  wi := m (c.tc.loc main_arg3)
  bi := m (c.tc.loc main_arg4)
  v := m (c.tc.loc main_arg5)
  dw := m (c.tc.loc main_arg6)
  db := m (c.tc.loc main_arg7)
  lg := m (c.tc.loc main_arg8)
  lb := m (c.tc.loc main_arg9)
  wc := m (c.tc.loc main_arg10)
  bc := m (c.tc.loc main_arg11)
  fr := m (c.tc.loc main_arg12)
  wf := m (c.tc.loc main_arg13)
  bf := m (c.tc.loc main_arg14)
  wo := m (c.tc.loc main_arg15)
  bo := m (c.tc.loc main_arg16)
  g2 := m (c.tc.loc main_arg17)
  rw := m (c.tc.loc main_arg18)

/-- The block each window is on at grid point `t`. -/
theorem idx : ∀ t : Fin cfg0.N,
    win0_0.index t = ![t.val / 8, t.val % 8, 0] ∧ win0_1.index t = ![t.val / 8, 0, 0] ∧
    win0_2.index t = ![0, 0] ∧ win0_3.index t = ![0, 0] ∧ win0_4.index t = ![0, 0] ∧
    win0_5.index t = ![t.val / 8, 0, 0] ∧ win0_6.index t = ![0, 0] ∧ win0_7.index t = ![0, 0] ∧ win0_8.index t = ![0, 0] ∧
    win0_9.index t = ![0, 0] ∧ win0_10.index t = ![0, 0] ∧ win0_11.index t = ![0, 0] ∧
    win0_12.index t = ![t.val / 8, t.val % 8, 0] ∧ win0_13.index t = ![0, 0] ∧ win0_14.index t = ![0, 0] ∧
    win0_15.index t = ![0, 0] ∧ win0_16.index t = ![0, 0] ∧ win0_17.index t = ![0, 0] ∧ win0_18.index t = ![0, 0] ∧
    win0_19.index t = ![t.val / 8, t.val % 8, 0] ∧ win0_20.index t = ![t.val / 8, t.val % 8, 0] ∧
    win0_21.index t = ![t.val / 8, t.val % 8, 0] :=
  (by decide +kernel : ∀ t : Fin grid0.N, _)

/-- The tile a grid point is on. -/
theorem tile : ∀ t : Fin cfg0.N, (grid0.coords t 1).val = t.val % 8 :=
  (by decide +kernel : ∀ t : Fin grid0.N, _)

section blocks

variable (c : Dev nD) (t : Fin cfg0.N) (r : Fin 512) (b : Fin 8) (s : Fin 4096)
  (hb : b.val = t.val / 8) (hs : s.val = t.val % 8 * 512 + r.val)

include hb in
/-- The modulation's block. -/
theorem blk1 (i : Fin 6) (k : Fin 1024) : iblk m c 1 t (ix3 0 i k) = (args m c).md (ix3 b i k) := by
  blk_point [iblk, V, idx t, args]

include hb hs in
/-- The input's block. -/
theorem blk0 (k : Fin 1024) : iblk m c 0 t (ix3 0 r k) = (args m c).x (ix3 b s k) := by
  blk_point [iblk, V, idx t, args]

include hb hs in
/-- The Fourier branch's block. -/
theorem blk12 (k : Fin 512) : iblk m c 12 t (ix3 0 r k) = (args m c).fr (ix3 b s k) := by
  blk_point [iblk, V, idx t, args]

include hb in
/-- The convolution input's block. -/
theorem blk5 (i : Fin 4096) (k : Fin 512) : iblk m c 5 t (ix3 0 i k) = (args m c).v (ix3 b i k) := by
  blk_point [iblk, V, idx t, args]

/-- The first norm's gain. -/
theorem blk2 (k : Fin 1024) : iblk m c 2 t (ix2 0 k) = (args m c).g1 (ix1 k) := by
  blk_point [iblk, V, idx t, args]

/-- The gates' weights: the columns after the first 1536. -/
theorem blk3 (k : Fin 1024) (e : Fin 2048) : iblk m c 3 t (ix2 k e) = (args m c).wi (ix2 k ⟨1536 + e.val, by omega⟩) := by
  blk_point [iblk, V, idx t, args]

/-- The gates' biases. -/
theorem blk4 (e : Fin 2048) : iblk m c 4 t (ix2 0 e) = (args m c).bi (ix1 ⟨1536 + e.val, by omega⟩) := by
  blk_point [iblk, V, idx t, args]

/-- The convolution's taps. -/
theorem blk6 (k : Fin 31) (q : Fin 512) : iblk m c 6 t (ix2 k q) = (args m c).dw (ix2 k q) := by
  blk_point [iblk, V, idx t, args]

/-- The convolution's bias. -/
theorem blk7 (q : Fin 512) : iblk m c 7 t (ix2 0 q) = (args m c).db (ix1 q) := by
  blk_point [iblk, V, idx t, args]

/-- The layer norm's gain. -/
theorem blk8 (q : Fin 512) : iblk m c 8 t (ix2 0 q) = (args m c).lg (ix1 q) := by
  blk_point [iblk, V, idx t, args]

/-- The layer norm's offset. -/
theorem blk9 (q : Fin 512) : iblk m c 9 t (ix2 0 q) = (args m c).lb (ix1 q) := by
  blk_point [iblk, V, idx t, args]

/-- The convolution branch's output weights. -/
theorem blk10 (k : Fin 512) (e : Fin 1024) : iblk m c 10 t (ix2 k e) = (args m c).wc (ix2 k e) := by
  blk_point [iblk, V, idx t, args]

/-- The convolution branch's output bias. -/
theorem blk11 (e : Fin 1024) : iblk m c 11 t (ix2 0 e) = (args m c).bc (ix1 e) := by
  blk_point [iblk, V, idx t, args]

/-- The Fourier branch's output weights. -/
theorem blk13 (k : Fin 512) (e : Fin 1024) : iblk m c 13 t (ix2 k e) = (args m c).wf (ix2 k e) := by
  blk_point [iblk, V, idx t, args]

/-- The Fourier branch's output bias. -/
theorem blk14 (e : Fin 1024) : iblk m c 14 t (ix2 0 e) = (args m c).bf (ix1 e) := by
  blk_point [iblk, V, idx t, args]

/-- The output weights. -/
theorem blk15 (k : Fin 1024) (e : Fin 1024) : iblk m c 15 t (ix2 k e) = (args m c).wo (ix2 k e) := by
  blk_point [iblk, V, idx t, args]

/-- The output bias. -/
theorem blk16 (e : Fin 1024) : iblk m c 16 t (ix2 0 e) = (args m c).bo (ix1 e) := by
  blk_point [iblk, V, idx t, args]

/-- The second norm's gain. -/
theorem blk17 (e : Fin 1024) : iblk m c 17 t (ix2 0 e) = (args m c).g2 (ix1 e) := by
  blk_point [iblk, V, idx t, args]

end blocks

end Cert.MixerIdeal.Hand

end
-- ==== Proof.MixerFinal.lean ====
/- The mixer kernel's three output arrays, index by index, as functions of its arguments. -/
module

public import proofs.«01_k».proof.Proof.MixerBlocks

@[expose] public section

set_option maxRecDepth 16384
set_option maxHeartbeats 4000000

noncomputable section

namespace Cert.MixerIdeal.Hand

open Idealize.ShloMosaic Idealize.SL.Sem Cert.MixerIdeal Cert.MixerIdeal.Gen

variable (m : (ℓ : Loc nD τ sig) → Buf (Elt Ideal) ℓ)
variable (c : Dev nD) (t : Fin cfg0.N)

/-- The router's weights after the host's padding. -/
theorem rwv (k : Fin 1024) (l : Fin 128) : (V m c main_v3 : Vec Ideal S1024x128 .bf16) (ix2 k l) =
    if h : l.val < 16 then (args m c).rw (ix2 k ⟨l.val, h⟩) else 0 := by
  generalize hR : (if h : l.val < 16 then (args m c).rw (ix2 k ⟨l.val, h⟩) else 0) = R
  unfold V
  entry_read
  rw [padded _ _ (fun _ => rfl), ← hR]
  split
  · rfl
  · pointwise []

/-- The router's weights, padded with zero columns. -/
theorem blk18 (k : Fin 1024) (l : Fin 128) : iblk m c 18 t (ix2 k l) =
    if h : l.val < 16 then (args m c).rw (ix2 k ⟨l.val, h⟩) else 0 := by
  refine Eq.trans (congrArg (V m c main_v3) (?_ : (win0_18.blk t).view.emb (ix2 k l) = ix2 k l)) (rwv m c k l)
  funext a
  match a with
  | ⟨0, _⟩ => apply Fin.ext; blk_simp [idx t]
  | ⟨1, _⟩ => apply Fin.ext; blk_simp [idx t]

/-- The tile a grid point's second coordinate names. -/
def tl (i : grid0.Coords) : Fin 8 := i 1

/-- A read of 520 rows of the staged window, from row `o`. -/
theorem read_tl (i : grid0.Coords) (v : Vec Ideal S1x4096x512 .bf16) (o : ℕ) (ho : o + 520 ≤ 544)
    (p1 : ∀ a, k0_off1 i a + (![1, 512, 512] : Fin 3 → ℕ) a ≤ S1x4096x512.size a)
    (p2 : ∀ a, k0_off2 i a + (![1, 16, 512] : Fin 3 → ℕ) a ≤ S1x4096x512.size a)
    (p3 : ∀ a, k0_off3 i a + (![1, 16, 512] : Fin 3 → ℕ) a ≤ S1x4096x512.size a)
    (p4 : ∀ a, (![o, 0] : Fin 2 → ℕ) a + (![520, 512] : Fin 2 → ℕ) a ≤ S544x512.size a) :
    (View.whole cc0_scratch0).readCov
            [⟨Rect.unit ![528, 0] ![16, 512] inb_S544x512_S16x512_528_0, k0_pay8 (F := Ideal) (k0_pay7 i (View.ld v (Rect.unit (k0_off3 i) ![1, 16, 512] p3)))⟩,
              ⟨Rect.unit ![0, 0] ![16, 512] inb_S544x512_S16x512_0_0, k0_pay6 i (View.ld v (Rect.unit (k0_off2 i) ![1, 16, 512] p2))⟩,
              ⟨Rect.unit ![16, 0] ![512, 512] inb_S544x512_S512x512_16_0, k0_pay5 (View.ld v (Rect.unit (k0_off1 i) ![1, 512, 512] p1))⟩]
            (Rect.unit (s := S544x512) ![o, 0] ![520, 512] p4).toLoadRect = WIN (tl i) v o :=
  read_win i v o ho p1 p2 p3 p4

/-- The convolution branch's activation on the blocks of grid point `t`. -/
def CVB : Vec Ideal S512x512 .bf16 := fun y =>
  silu (ln (conv (tl (grid0.coords t)) (iblk m c 5 t) (iblk m c 6 t) (iblk m c 7 t) (y 0)) (fun q => iblk m c 8 t (ix2 0 q)) (fun q => iblk m c 9 t (ix2 0 q)) (y 1))

variable (r : Fin 512) (b : Fin 8) (s : Fin 4096) (hb : b.val = t.val / 8) (hs : s.val = t.val % 8 * 512 + r.val)

include hb hs in
/-- The staged window holds the padded input's rows. -/
theorem win_eq (k : Fin 31) (q : Fin 512) : win (tl (grid0.coords t)) (iblk m c 5 t) (r.val + 1 + k.val) q = (args m c).vp b (s.val + k.val) q := by
  have ht : (tl (grid0.coords t)).val = t.val % 8 := tile t
  unfold win Args.vp
  by_cases h : 15 ≤ s.val + k.val ∧ s.val + k.val < 4111
  · rw [dif_pos h, dif_pos (by omega), blk5 m c t b hb]
    exact congrArg (fun e => (args m c).v (ix3 b e q)) (Fin.ext (by show _ - 16 = _ - 15; omega))
  · rw [dif_neg h, dif_neg (by omega)]

include hb hs in
/-- The kernel's convolution row is the convolution at that position. -/
theorem conv_row : conv (tl (grid0.coords t)) (iblk m c 5 t) (iblk m c 6 t) (iblk m c 7 t) r = (args m c).cv b s := by
  funext q
  unfold conv Args.cv
  simp only [win_eq m c t r b s hb hs, blk6 m c t, blk7 m c t]

include hb hs in
/-- The rows the kernel leaves are the mixed rows. -/
theorem row_h (q : Fin 1024) : k0_pay32 (k0_pay4 (iblk m c 1 t)) (k0_pay9 (iblk m c 0 t)) (CVB m c t) (k0_pay24 (iblk m c 12 t)) (k0_pay29 (CVB m c t) (k0_pay24 (iblk m c 12 t)) (k0_pay25
      (iblk m c 16 t)) (k0_pay26 (k0_pay10 (k0_pay4 (iblk m c 1 t)) (iblk m c 0 t) (iblk m c 2 t)) (View.ld (iblk m c 3 t) (Rect.unit ![0, 0] ![1024, 512]
      inb_S1024x2048_S1024x512_0_0)) (View.ld (iblk m c 4 t) (Rect.unit ![0, 0] ![1, 512] inb_S1x2048_S1x512_0_0))) (k0_pay27 (k0_pay10 (k0_pay4 (iblk m c 1
      t)) (iblk m c 0 t) (iblk m c 2 t)) (View.ld (iblk m c 3 t) (Rect.unit ![0, 1024] ![1024, 512] inb_S1024x2048_S1024x512_0_1024)) (View.ld (iblk m c 4
      t) (Rect.unit ![0, 1024] ![1, 512] inb_S1x2048_S1x512_0_1024))) (k0_pay28 (View.ld (iblk m c 10 t) (Rect.unit ![0, 0] ![512, 512]
      inb_S512x1024_S512x512_0_0))) (View.ld (iblk m c 11 t) (Rect.unit ![0, 0] ![1, 512] inb_S1x1024_S1x512_0_0)) (View.ld (iblk m c 13 t) (Rect.unit ![0,
      0] ![512, 512] inb_S512x1024_S512x512_0_0)) (View.ld (iblk m c 14 t) (Rect.unit ![0, 0] ![1, 512] inb_S1x1024_S1x512_0_0)) (View.ld (iblk m c 15 t)
      (Rect.unit ![0, 0] ![512, 1024] inb_S1024x1024_S512x1024_0_0))) (k0_pay30 (k0_pay10 (k0_pay4 (iblk m c 1 t)) (iblk m c 0 t) (iblk m c 2 t)) (View.ld
      (iblk m c 3 t) (Rect.unit ![0, 512] ![1024, 512] inb_S1024x2048_S1024x512_0_512)) (View.ld (iblk m c 4 t) (Rect.unit ![0, 512] ![1, 512]
      inb_S1x2048_S1x512_0_512))) (k0_pay31 (k0_pay10 (k0_pay4 (iblk m c 1 t)) (iblk m c 0 t) (iblk m c 2 t)) (View.ld (iblk m c 3 t) (Rect.unit ![0, 1536]
      ![1024, 512] inb_S1024x2048_S1024x512_0_1536)) (View.ld (iblk m c 4 t) (Rect.unit ![0, 1536] ![1, 512] inb_S1x2048_S1x512_0_1536))) (View.ld (iblk m c
      10 t) (Rect.unit ![0, 512] ![512, 512] inb_S512x1024_S512x512_0_512)) (View.ld (iblk m c 11 t) (Rect.unit ![0, 512] ![1, 512]
      inb_S1x1024_S1x512_0_512)) (View.ld (iblk m c 13 t) (Rect.unit ![0, 512] ![512, 512] inb_S512x1024_S512x512_0_512)) (View.ld (iblk m c 14 t)
      (Rect.unit ![0, 512] ![1, 512] inb_S1x1024_S1x512_0_512)) (View.ld (iblk m c 15 t) (Rect.unit ![512, 0] ![512, 1024] inb_S1024x1024_S512x1024_512_0)) (ix2 r q) = (args m c).h b s q := by
  refine (hid_at (k0_pay10 (k0_pay4 (iblk m c 1 t)) (iblk m c 0 t) (iblk m c 2 t)) (CVB m c t) (iblk m c 0 t) (iblk m c 1 t)
    (iblk m c 3 t) (iblk m c 4 t) (iblk m c 10 t) (iblk m c 11 t) (iblk m c 12 t) (iblk m c 13 t) (iblk m c 14 t) (iblk m c 15 t)
    (iblk m c 16 t) r q).trans ?_
  simp only [ub_at, blk0 m c t r b s hb hs, blk1 m c t b hb, blk2 m c t, blk10 m c t, blk11 m c t,
    blk12 m c t r b s hb hs, blk13 m c t, blk14 m c t, blk15 m c t, blk16 m c t]
  have e : (fun k => CVB m c t (ix2 r k)) =
      fun k => silu (ln ((args m c).cv b s) (fun q => (args m c).lg (ix1 q)) (fun q => (args m c).lb (ix1 q)) k) := by
    funext k
    rw [← conv_row m c t r b s hb hs]
    simp only [← blk8 m c t, ← blk9 m c t]
    rfl
  have e3 : (fun (k : Fin 1024) (e : Fin 2048) => (iblk m c 3 t (ix2 k e) : EReal)) = fun k e => (args m c).wi (ix2 k ⟨1536 + e.val, by omega⟩) :=
    funext fun k => funext fun e => blk3 m c t r b s k e
  have e4 : (fun e : Fin 2048 => (iblk m c 4 t (ix2 0 e) : EReal)) = fun e => (args m c).bi (ix1 ⟨1536 + e.val, by omega⟩) :=
    funext fun e => blk4 m c t r b s e
  rw [e, e3, e4]
  rfl

/-- The first result's array. -/
def SPEC19 (A : Args) (i : S8x4096x1024.Idx) : EReal := A.h (i 0) (i 1) (i 2)

/-- The second result's array. -/
def SPEC20 (A : Args) (i : S8x4096x1024.Idx) : EReal := A.u2 (i 0) (i 1) (i 2)

/-- The third result's array. -/
def SPEC21 (A : Args) (i : S8x4096x128.Idx) : EReal := A.lo (i 0) (i 1) (i 2)

/-- What point `t` leaves in the first output block. -/
theorem point19 (y : S1x512x1024.Idx) (j : S8x4096x1024.Idx)
    (hj0 : (j 0 : ℕ) = t.val / 8) (hj1 : (j 1 : ℕ) = t.val % 8 * 512 + y 1) (hj2 : (j 2 : ℕ) = y 2) :
    (outsAt0 m c t).1 y = SPEC19 (args m c) j := by
  unfold outsAt0
  frame_out
  rw [read_tl _ _ 0 (by decide), read_tl _ _ 8 (by decide), read_tl _ _ 16 (by decide), read_tl _ _ 24 (by decide), cv_eq, h_at]
  refine (row_h m c t (y 1) (j 0) (j 1) hj0 hj1 (y 2)).trans ?_
  rw [SPEC19, show j 2 = y 2 from Fin.ext hj2]

/-- What point `t` leaves in the second output block. -/
theorem point20 (y : S1x512x1024.Idx) (j : S8x4096x1024.Idx)
    (hj0 : (j 0 : ℕ) = t.val / 8) (hj1 : (j 1 : ℕ) = t.val % 8 * 512 + y 1) (hj2 : (j 2 : ℕ) = y 2) :
    (outsAt0 m c t).2.1 y = SPEC20 (args m c) j := by
  unfold outsAt0
  frame_out
  rw [read_tl _ _ 0 (by decide), read_tl _ _ 8 (by decide), read_tl _ _ 16 (by decide), read_tl _ _ 24 (by decide), cv_eq, ms_eq, u2_at]
  simp only [blk1 m c t (j 0) hj0, blk17 m c t]
  rw [SPEC20, show j 2 = y 2 from Fin.ext hj2]
  exact congrArg (fun x => norm x _ _ _ (y 2)) (funext fun k => row_h m c t (y 1) (j 0) (j 1) hj0 hj1 k)

/-- What point `t` leaves in the third output block. -/
theorem point21 (y : S1x512x128.Idx) (j : S8x4096x128.Idx)
    (hj0 : (j 0 : ℕ) = t.val / 8) (hj1 : (j 1 : ℕ) = t.val % 8 * 512 + y 1) (hj2 : (j 2 : ℕ) = y 2) :
    (outsAt0 m c t).2.2 y = SPEC21 (args m c) j := by
  unfold outsAt0
  frame_out
  rw [read_tl _ _ 0 (by decide), read_tl _ _ 8 (by decide), read_tl _ _ 16 (by decide), read_tl _ _ 24 (by decide), cv_eq, ms_eq, lg_at]
  rw [SPEC21, show j 2 = y 2 from Fin.ext hj2]
  refine (Finset.sum_congr rfl fun k _ => congrArg₂ (· * ·) (?_ : _ = (args m c).u2 (j 0) (j 1) k) (blk18 m c t k (y 2))).trans ?_
  · simp only [blk1 m c t (j 0) hj0, blk17 m c t]
    exact congrArg (fun x => norm x _ _ _ k) (funext fun k => row_h m c t (y 1) (j 0) (j 1) hj0 hj1 k)
  · unfold Args.lo
    split
    · rfl
    · simp only [mul_zero, Finset.sum_const_zero]

/-- The first output array after the run. -/
theorem final19 : (dats m 0 c).arrAt 19 cfg0.N = SPEC19 (args m c) := by
  refine (dats m 0 c).arrAt_eq_of_covers 19 _ (by decide +kernel) fun t hf y => ?_
  blk_simp
  rw [after0_19]
  refine point19 m c t y _ ?_ ?_ ?_
  all_goals (blk_simp [idx t] <;> try omega)

/-- The second output array after the run. -/
theorem final20 : (dats m 0 c).arrAt 20 cfg0.N = SPEC20 (args m c) := by
  refine (dats m 0 c).arrAt_eq_of_covers 20 _ (by decide +kernel) fun t hf y => ?_
  blk_simp
  rw [after0_20]
  refine point20 m c t y _ ?_ ?_ ?_
  all_goals (blk_simp [idx t] <;> try omega)

/-- The third output array after the run. -/
theorem final21 : (dats m 0 c).arrAt 21 cfg0.N = SPEC21 (args m c) := by
  refine (dats m 0 c).arrAt_eq_of_covers 21 _ (by decide +kernel) fun t hf y => ?_
  blk_simp
  rw [after0_21]
  refine point21 m c t y _ ?_ ?_ ?_
  all_goals (blk_simp [idx t] <;> try omega)

end Cert.MixerIdeal.Hand

end
-- ==== Proof.MixerRef.lean ====
/- The mixer reference's named intermediate arrays, entry by entry. -/
module

public import proofs.«01_k».proof.Proof.Gen.MixerRefIdeal.Run
public import proofs.«01_k».proof.Proof.MixerBlocks
public import Idealize.ShloMosaic.Lib.Pipeline.ValueKit
public import Idealize.ShloMosaic.Lib.Pointwise
public import Idealize.ShloMosaic.Lib.Tactic.ValueTie

@[expose] public section

set_option maxRecDepth 16384
set_option maxHeartbeats 4000000

noncomputable section

namespace Cert.MixerRefIdeal.Hand

open Idealize.ShloMosaic Idealize.SL.Sem Cert.MixerRefIdeal Cert.MixerRefIdeal.Gen Cert.MixerRefIdeal.Value
open Cert.MixerIdeal.Hand (Args gate aff merged cen ln silu sum31)

/-- The mixer's arguments as the reference holds them. -/
def args (V0 : Valuation τ sig (Elt Ideal)) : Args where
  x := V0 (Proc.devRef .tc main_arg0)
  md := V0 (Proc.devRef .tc main_arg1)
  g1 := V0 (Proc.devRef .tc main_arg2)
  wi := V0 (Proc.devRef .tc main_arg3)
  bi := V0 (Proc.devRef .tc main_arg4)
  v := V0 (Proc.devRef .tc main_arg5)
  dw := V0 (Proc.devRef .tc main_arg6)
  db := V0 (Proc.devRef .tc main_arg7)
  lg := V0 (Proc.devRef .tc main_arg8)
  lb := V0 (Proc.devRef .tc main_arg9)
  wc := V0 (Proc.devRef .tc main_arg10)
  bc := V0 (Proc.devRef .tc main_arg11)
  fr := V0 (Proc.devRef .tc main_arg12)
  wf := V0 (Proc.devRef .tc main_arg13)
  bf := V0 (Proc.devRef .tc main_arg14)
  wo := V0 (Proc.devRef .tc main_arg15)
  bo := V0 (Proc.devRef .tc main_arg16)
  g2 := V0 (Proc.devRef .tc main_arg17)
  rw := V0 (Proc.devRef .tc main_arg18)

variable (V0 : Valuation τ sig (Elt Ideal))

/-- The first norm. -/
theorem ref_u (b : Fin 8) (s : Fin 4096) (q : Fin 1024) : res_main_v30 V0 (ix3 b s q) = (args V0).u b s q := by
  unfold res_main_v30
  pointwise [Args.u, Cert.MixerIdeal.Hand.norm, args]
  simp only [mul_assoc]

/-- The padded convolution input. -/
theorem ref_vp (b : Fin 8) (a : ℕ) (ha : a < 4126) (q : Fin 512) : res_main_v56 V0 (ix3 b ⟨a, ha⟩ q) = (args V0).vp b a q := by
  unfold res_main_v56
  pointwise [Args.vp, args]
  by_cases h : 15 ≤ a ∧ a < 4111
  · rw [dif_pos h, dif_pos]
    intro x
    match x with
    | ⟨0, _⟩ => exact ⟨Nat.zero_le _, by show (b.val - 0) % (0 + 1) = 0 ∧ (b.val - 0) / (0 + 1) < 8; omega⟩
    | ⟨1, _⟩ => show 15 ≤ a ∧ (a - 15) % (0 + 1) = 0 ∧ (a - 15) / (0 + 1) < 4096; omega
    | ⟨2, _⟩ => exact ⟨Nat.zero_le _, by show (q.val - 0) % (0 + 1) = 0 ∧ (q.val - 0) / (0 + 1) < 512; omega⟩
  · rw [dif_neg h, dif_neg]
    · show ((((0#32 : BitVec 32).toInt : ℝ)) : EReal) = 0
      simp
    · intro H
      have H1 : 15 ≤ a ∧ (a - 15) % (0 + 1) = 0 ∧ (a - 15) / (0 + 1) < 4096 := H 1
      omega

/-- The convolution. -/
theorem ref_cv (b : Fin 8) (s : Fin 4096) (q : Fin 512) : res_main_v277 V0 (ix3 b s q) = (args V0).cv b s q := by
  have hw : ∀ (a : ℕ) (ha : a < 4126), res_main_v56 V0 (ix3 b ⟨a, ha⟩ q) = (args V0).vp b a q := fun a ha => ref_vp V0 b a ha q
  unfold res_main_v277 res_main_v211 res_main_v134
  generalize res_main_v56 V0 = w at hw
  pointwise []
  simp only [hw, Nat.add_comm _ s.val]
  unfold Args.cv
  rw [sum31]
  rfl

/-- The layer norm of the convolution. -/
theorem ref_ln (b : Fin 8) (s : Fin 4096) (q : Fin 512) :
    res_main_v299 V0 (ix3 b s q) = ln ((args V0).cv b s) (fun q => (args V0).lg (ix1 q)) (fun q => (args V0).lb (ix1 q)) q := by
  have hw : ∀ q, res_main_v277 V0 (ix3 b s q) = (args V0).cv b s q := ref_cv V0 b s
  unfold res_main_v299 res_main_v283
  generalize res_main_v277 V0 = w at hw
  pointwise []
  simp only [hw]
  rfl

/-- The mixed rows. -/
theorem ref_h (b : Fin 8) (s : Fin 4096) (q : Fin 1024) : res_main_v320 V0 (ix3 b s q) = (args V0).h b s q := by
  have hu : ∀ q, res_main_v30 V0 (ix3 b s q) = (args V0).u b s q := ref_u V0 b s
  have hl := ref_ln V0 b s
  unfold res_main_v320
  generalize res_main_v30 V0 = w at hu
  generalize res_main_v299 V0 = z at hl
  pointwise []
  simp only [hu, hl]
  simp only [Args.h, Args.mg, merged, gate, aff, silu, Ideal.logistic, ← Nat.add_assoc, Nat.reduceAdd]
  rfl

/-- The second norm. -/
theorem ref_u2 (b : Fin 8) (s : Fin 4096) (q : Fin 1024) : res_main_v341 V0 (ix3 b s q) = (args V0).u2 b s q := by
  have hh : ∀ q, res_main_v320 V0 (ix3 b s q) = (args V0).h b s q := ref_h V0 b s
  unfold res_main_v341
  generalize res_main_v320 V0 = w at hh
  pointwise [Args.u2, Cert.MixerIdeal.Hand.norm]
  simp only [hh, mul_assoc]
  rfl

/-- The padded logits. -/
theorem ref_lo (b : Fin 8) (s : Fin 4096) (l : Fin 128) :
    (pad S8x4096x128 ![0, 0, 0] ![0, 0, 112] ![0, 0, 0]
      (Host.dotGeneral (F := Ideal) (φ₁ := .f32) (φ₂ := .f32) dot_S8x4096x1024_S1024x16_S8x4096x16_2_0_01_1_n_n none (res_main_v341 V0) (V0 (Proc.devRef .tc main_arg18)))
      (sitofp (F := Ideal) .f32 (constantI S_ 32 0#32)) pads_S8x4096x16_S8x4096x128_000_000_01120 h_S_ : Vec Ideal S8x4096x128 .f32) (ix3 b s l) =
      (args V0).lo b s l := by
  have hu : ∀ q, res_main_v341 V0 (ix3 b s q) = (args V0).u2 b s q := ref_u2 V0 b s
  generalize res_main_v341 V0 = w at hu
  unfold Args.lo
  pointwise []
  by_cases h : l.val < 16
  · rw [dif_pos h, dif_pos h]
    simp only [hu]
    rfl
  · rw [dif_neg h, dif_neg h]
    show ((((0#32 : BitVec 32).toInt : ℝ)) : EReal) = 0
    simp

end Cert.MixerRefIdeal.Hand

end
-- ==== Proof.MixerClose.lean ====
/- The mixer kernel and its reference compute the same three arrays. -/
module

public import proofs.«01_k».proof.Defs
public import proofs.«01_k».proof.Proof.Gen.MixerIdeal.Value
public import proofs.«01_k».proof.Proof.Gen.MixerRefIdeal.Run
public import proofs.«01_k».proof.Proof.MixerFinal
public import proofs.«01_k».proof.Proof.MixerRef
public import Idealize.ShloMosaic.Lib.Pipeline.ValueKit
public import Idealize.ShloMosaic.Lib.Pointwise
public import Idealize.ShloMosaic.Lib.Tactic.ValueTie

@[expose] public section

set_option maxRecDepth 16384
set_option maxHeartbeats 4000000

noncomputable section

namespace Cert.MixerIdeal.Hand

open Idealize.ShloMosaic Idealize.SL.Sem

/-- The three results of the kernel and of the reference are the same on memories agreeing on the arguments. -/
theorem tie : algebraic_MixerIdeal_MixerRefIdeal := by
  intro m ρ m' ρ' _ hagree
  refine ⟨_, _, _, Cert.MixerIdeal.Value.run_blocks (F := Ideal) m ρ, ?_⟩
  have ha : ∀ c, Cert.MixerRefIdeal.Hand.args (StableHlo.launchContents m' c) = args m c := fun c => by
    obtain ⟨h0, h1, h2, h3, h4, h5, h6, h7, h8, h9, h10, h11, h12, h13, h14, h15, h16, h17, h18⟩ := hagree c
    unfold args
    rw [← h0, ← h1, ← h2, ← h3, ← h4, ← h5, ← h6, ← h7, ← h8, ← h9, ← h10, ← h11, ← h12, ← h13, ← h14, ← h15, ← h16, ← h17, ← h18]
    rfl
  refine (θ_run Cert.MixerRefIdeal.defs _ _).mono (fun _ h c => ⟨?_, ?_, ?_, (h c).2.2.2⟩) (Cert.MixerRefIdeal.Value.run (F := Ideal) m' ρ')
  · rw [(h c).1, final19, ← ha c]
    funext j
    rw [ValueIdx.eq_ix3 j]
    exact Cert.MixerRefIdeal.Hand.ref_h _ _ _ _
  · rw [(h c).2.1, final20, ← ha c]
    funext j
    rw [ValueIdx.eq_ix3 j]
    exact Cert.MixerRefIdeal.Hand.ref_u2 _ _ _ _
  · rw [(h c).2.2.1, final21, ← ha c]
    funext j
    rw [ValueIdx.eq_ix3 j]
    exact Cert.MixerRefIdeal.Hand.ref_lo _ _ _ _

end Cert.MixerIdeal.Hand

end
-- ==== Proof.ProjFinal.lean ====
/- The input projection kernel's two output arrays, index by index, as functions of its arguments. -/
module

public import proofs.«01_k».proof.Proof.Gen.ProjIdeal.Frame
public import Idealize.ShloMosaic.Lib.Pipeline.ValueKit
public import Idealize.ShloMosaic.Lib.Pointwise
public import Idealize.ShloMosaic.Lib.Pipeline.ReadBack

@[expose] public section

set_option maxRecDepth 16384
set_option maxHeartbeats 2000000

noncomputable section

namespace Cert.ProjIdeal.Hand

open Idealize.ShloMosaic Idealize.SL.Sem Cert.ProjIdeal Cert.ProjIdeal.Gen

/-- Entry `k` of a row `x` divided by its root mean square, scaled by `g * (1 + scale)` and shifted. -/
def norm (x g scale shift : Fin 1024 → EReal) (k : Fin 1024) : EReal :=
  x k * Ideal.rsqrt (Ideal.div (∑ i, x i * x i) (Ideal.ofBits FTy.f32 1149239296#32) + Ideal.ofBits FTy.f32 897988541#32) *
    (g k * (1 + scale k)) + shift k

/-- One projected entry: the normalised row against a weight column, plus the bias. -/
def proj (x g scale shift w : Fin 1024 → EReal) (b : EReal) : EReal := (∑ k, norm x g scale shift k * w k) + b

/-- The index of a weight's column `o + q`. -/
def col (o : ℕ) (q : Fin 512) (h : o + 512 ≤ 3584 := by decide) : Fin 3584 := ⟨o + q.val, by omega⟩

/-- The projected entry of batch element `i 0`, position `i 1` and weight column `q`. -/
def P (X : Vec Ideal S8x4096x1024 .f32) (M : Vec Ideal S8x6x1024 .f32) (G : Vec Ideal S1024 .f32)
    (W : Vec Ideal S1024x3584 .f32) (B : Vec Ideal S3584 .f32) (i : S8x4096x512.Idx) (q : Fin 3584) : EReal :=
  proj (fun k => X (ix3 (i 0) (i 1) k)) (fun k => G (ix1 k)) (fun k => M (ix3 (i 0) 1 k)) (fun k => M (ix3 (i 0) 0 k))
    (fun k => W (ix2 k q)) (B (ix1 q))

/-- The gated convolution input: one third of the columns times the logistic of the next. -/
def SPEC5 (X : Vec Ideal S8x4096x1024 .f32) (M : Vec Ideal S8x6x1024 .f32) (G : Vec Ideal S1024 .f32)
    (W : Vec Ideal S1024x3584 .f32) (B : Vec Ideal S3584 .f32) (i : S8x4096x512.Idx) : EReal :=
  P X M G W B i (col 0 (i 2)) * Ideal.logistic (P X M G W B i (col 512 (i 2)))

/-- The Fourier branch's input: the last third of the columns. -/
def SPEC6 (X : Vec Ideal S8x4096x1024 .f32) (M : Vec Ideal S8x6x1024 .f32) (G : Vec Ideal S1024 .f32)
    (W : Vec Ideal S1024x3584 .f32) (B : Vec Ideal S3584 .f32) (i : S8x4096x512.Idx) : EReal :=
  P X M G W B i (col 1024 (i 2))

variable (m : (ℓ : Loc nD τ sig) → Buf (Elt Ideal) ℓ)

/-- The block each window is on at grid point `t`. -/
theorem idx : ∀ t : Fin cfg0.N,
    win0_0.index t = ![t.val / 4, t.val % 4, 0] ∧ win0_1.index t = ![t.val / 4, 0, 0] ∧
    win0_2.index t = ![0, 0] ∧ win0_3.index t = ![0, 0] ∧ win0_4.index t = ![0, 0] ∧
    win0_5.index t = ![t.val / 4, t.val % 4, 0] ∧ win0_6.index t = ![t.val / 4, t.val % 4, 0] :=
  (by decide +kernel : ∀ t : Fin grid0.N, _)

/-- What point `t` leaves in the first output block. -/
theorem point5 (c : Dev nD) (t : Fin cfg0.N) (y : S1x1024x512.Idx) (j : S8x4096x512.Idx)
    (hj0 : (j 0 : ℕ) = t.val / 4) (hj1 : (j 1 : ℕ) = t.val % 4 * 1024 + y 1) (hj2 : (j 2 : ℕ) = y 2) :
    out0_5 (iblk m c 0 t) (iblk m c 1 t) (iblk m c 2 t) (iblk m c 3 t) (iblk m c 4 t) y =
    SPEC5 (m (c.tc.loc main_arg0)) (m (c.tc.loc main_arg1)) (m (c.tc.loc main_arg2))
      (m (c.tc.loc main_arg3)) (m (c.tc.loc main_arg4)) j := by
  frame_out
  open_payloads
  pointwise [SPEC5, P, proj, norm, col]
  blk_point [iblk, V, idx t]

/-- What point `t` leaves in the second output block. -/
theorem point6 (c : Dev nD) (t : Fin cfg0.N) (y : S1x1024x512.Idx) (j : S8x4096x512.Idx)
    (hj0 : (j 0 : ℕ) = t.val / 4) (hj1 : (j 1 : ℕ) = t.val % 4 * 1024 + y 1) (hj2 : (j 2 : ℕ) = y 2) :
    out0_6 (iblk m c 0 t) (iblk m c 1 t) (iblk m c 2 t) (iblk m c 3 t) (iblk m c 4 t) y =
    SPEC6 (m (c.tc.loc main_arg0)) (m (c.tc.loc main_arg1)) (m (c.tc.loc main_arg2))
      (m (c.tc.loc main_arg3)) (m (c.tc.loc main_arg4)) j := by
  frame_out
  open_payloads
  pointwise [SPEC6, P, proj, norm, col]
  blk_point [iblk, V, idx t]

/-- The first output array after the run. -/
theorem final5 (c : Dev nD) : (dats m 0 c).arrAt 5 cfg0.N =
    SPEC5 (m (c.tc.loc main_arg0)) (m (c.tc.loc main_arg1)) (m (c.tc.loc main_arg2))
      (m (c.tc.loc main_arg3)) (m (c.tc.loc main_arg4)) := by
  refine (dats m 0 c).arrAt_eq_of_covers 5 _ (by decide +kernel) fun t hf y => ?_
  blk_simp
  rw [after0_5]
  refine point5 m c t y _ ?_ ?_ ?_
  all_goals (blk_simp [idx t] <;> try omega)

/-- The second output array after the run. -/
theorem final6 (c : Dev nD) : (dats m 0 c).arrAt 6 cfg0.N =
    SPEC6 (m (c.tc.loc main_arg0)) (m (c.tc.loc main_arg1)) (m (c.tc.loc main_arg2))
      (m (c.tc.loc main_arg3)) (m (c.tc.loc main_arg4)) := by
  refine (dats m 0 c).arrAt_eq_of_covers 6 _ (by decide +kernel) fun t hf y => ?_
  blk_simp
  rw [after0_6]
  refine point6 m c t y _ ?_ ?_ ?_
  all_goals (blk_simp [idx t] <;> try omega)

end Cert.ProjIdeal.Hand

end
-- ==== Proof.ProjClose.lean ====
/- The input projection kernel and its reference compute the same two arrays. -/
module

public import proofs.«01_k».proof.Defs
public import proofs.«01_k».proof.Proof.Gen.ProjIdeal.Value
public import proofs.«01_k».proof.Proof.Gen.ProjRefIdeal.Run
public import proofs.«01_k».proof.Proof.ProjFinal
public import Idealize.ShloMosaic.Lib.Pipeline.ValueKit
public import Idealize.ShloMosaic.Lib.Pointwise
public import Idealize.ShloMosaic.Lib.Tactic.ValueTie

@[expose] public section

set_option maxRecDepth 16384
set_option maxHeartbeats 2000000

noncomputable section

namespace Cert.ProjIdeal.Hand

open Idealize.ShloMosaic Idealize.SL.Sem

/-- The two projected halves of the kernel and of the reference are the same on memories agreeing on the arguments. -/
theorem tie : algebraic_ProjIdeal_ProjRefIdeal := by
  intro m ρ m' ρ' _ hagree
  refine ⟨_, _, Cert.ProjIdeal.Value.run_blocks (F := Ideal) m ρ, ?_⟩
  refine (θ_run Cert.ProjRefIdeal.defs _ _).mono (fun _ h c => ⟨?_, ?_, (h c).2.2⟩) (Cert.ProjRefIdeal.Value.run (F := Ideal) m' ρ')
  · rw [(h c).1]
    simp only [hagree c]
    rw [final5]
    clear h
    funext j
    pointwise [SPEC5, P, proj, norm, col]
    simp only [Ideal.logistic, mul_assoc]
  · rw [(h c).2.1]
    simp only [hagree c]
    rw [final6]
    clear h
    funext j
    pointwise [SPEC6, P, proj, norm, col]
    simp only [mul_assoc]

end Cert.ProjIdeal.Hand

end
-- ==== Proof.FourierMath.lean ====
/- The arithmetic behind the Fourier kernel: a row of the transform over 4096 positions is one over 1024 positions of the
   four quarters combined, when the row's cosines and sines turn by quarter turns from quarter to quarter. -/
module

public import Idealize.ShloMosaic.Lib.Pipeline.ValueKit
public import Idealize.ShloMosaic.Lib.Pointwise

@[expose] public section

set_option maxRecDepth 16384
set_option maxHeartbeats 1000000

noncomputable section

namespace Cert.FourierIdeal.Hand

open Idealize.ShloMosaic

/-- The values are real numbers. -/
def Reals {ι : Type} (x : ι → EReal) : Prop := ∃ r : ι → ℝ, x = fun i => (r i : EReal)

/-- A sum over 4096 positions, quarter by quarter. -/
theorem sum_quarters {M : Type} [AddCommMonoid M] (g : Fin 4096 → M) :
    ∑ n, g n = ∑ b : Fin 1024, (g ⟨b.val, by omega⟩ + g ⟨1024 + b.val, by omega⟩ + g ⟨2048 + b.val, by omega⟩ + g ⟨3072 + b.val, by omega⟩) := by
  have e : ∑ n, g n = ∑ n : Fin (1024 + 1024 + 1024 + 1024), g n := rfl
  rw [e, Fin.sum_univ_add, Fin.sum_univ_add, Fin.sum_univ_add, ← Finset.sum_add_distrib, ← Finset.sum_add_distrib, ← Finset.sum_add_distrib]
  rfl

/-- A sum over the 2048 rows of the two parts, part by part. -/
theorem sum_halves {M : Type} [AddCommMonoid M] (g : Fin 2048 → M) :
    ∑ n, g n = ∑ b : Fin 1024, (g ⟨b.val, by omega⟩ + g ⟨1024 + b.val, by omega⟩) := by
  have e : ∑ n, g n = ∑ n : Fin (1024 + 1024), g n := rfl
  rw [e, Fin.sum_univ_add, ← Finset.sum_add_distrib]
  rfl

/-- The real part of the combined quarters, for the rows that are `k` modulo four. -/
def re (k : Fin 4) (r i : Fin 4 → EReal) : EReal :=
  match k with
  | 0 => (r 0 + r 2) + (r 1 + r 3)
  | 1 => (r 0 - r 2) + (i 1 - i 3)
  | 2 => (r 0 + r 2) - (r 1 + r 3)
  | 3 => (r 0 - r 2) - (i 1 - i 3)

/-- The imaginary part of the combined quarters. -/
def im (k : Fin 4) (r i : Fin 4 → EReal) : EReal :=
  match k with
  | 0 => (i 0 + i 2) + (i 1 + i 3)
  | 1 => (i 0 - i 2) - (r 1 - r 3)
  | 2 => (i 0 + i 2) - (i 1 + i 3)
  | 3 => (i 0 - i 2) + (r 1 - r 3)

/-- Position `b` of quarter `a`. -/
def at4 (a : Fin 4) (b : Fin 1024) : Fin 4096 := ⟨1024 * a.val + b.val, by omega⟩

/-- A quarter further along a row that is `k` modulo four, the cosine. -/
def turnC (k : Fin 4) (c s : EReal) : EReal := match k with | 0 => c | 1 => -s | 2 => -c | 3 => s

/-- A quarter further along a row that is `k` modulo four, the sine. -/
def turnS (k : Fin 4) (c s : EReal) : EReal := match k with | 0 => s | 1 => c | 2 => -s | 3 => -c

/-- The row's transform from the combined quarters is the row's transform over all the positions. -/
theorem fold (k : Fin 4) (C S r i : Fin 4096 → EReal) (hC : Reals C) (hS : Reals S) (hr : Reals r) (hi : Reals i)
    (tC : ∀ n (h : n + 1024 < 4096), C ⟨n + 1024, h⟩ = turnC k (C ⟨n, by omega⟩) (S ⟨n, by omega⟩))
    (tS : ∀ n (h : n + 1024 < 4096), S ⟨n + 1024, h⟩ = turnS k (C ⟨n, by omega⟩) (S ⟨n, by omega⟩)) :
    ∑ b : Fin 1024, (C (at4 0 b) * re k (fun a => r (at4 a b)) (fun a => i (at4 a b)) +
        S (at4 0 b) * im k (fun a => r (at4 a b)) (fun a => i (at4 a b))) =
    (∑ n, C n * r n) + ∑ n, S n * i n := by
  rw [← Finset.sum_add_distrib, sum_quarters]
  refine Finset.sum_congr rfl fun b _ => ?_
  have c1 := tC b.val (by omega)
  have s1 := tS b.val (by omega)
  have c2 := tC (b.val + 1024) (by omega)
  have s2 := tS (b.val + 1024) (by omega)
  have c3 := tC (b.val + 1024 + 1024) (by omega)
  have s3 := tS (b.val + 1024 + 1024) (by omega)
  rw [c1, s1] at c2 s2
  rw [c2, s2] at c3 s3
  have p0 : at4 0 b = ⟨b.val, by omega⟩ := Fin.ext (by simp [at4])
  have p1 : at4 1 b = ⟨b.val + 1024, by omega⟩ := Fin.ext (by simp [at4]; omega)
  have p2 : at4 2 b = ⟨b.val + 1024 + 1024, by omega⟩ := Fin.ext (by simp [at4]; omega)
  have p3 : at4 3 b = ⟨b.val + 1024 + 1024 + 1024, by omega⟩ := Fin.ext (by simp [at4]; omega)
  have q1 : (⟨1024 + b.val, by omega⟩ : Fin 4096) = at4 1 b := Fin.ext (by simp [at4])
  have q2 : (⟨2048 + b.val, by omega⟩ : Fin 4096) = at4 2 b := Fin.ext (by simp [at4])
  have q3 : (⟨3072 + b.val, by omega⟩ : Fin 4096) = at4 3 b := Fin.ext (by simp [at4])
  rw [← p0, ← p1] at c1 s1
  rw [← p0, ← p2] at c2 s2
  rw [← p0, ← p3] at c3 s3
  rw [q1, q2, q3, ← p0, c1, s1, c2, s2, c3, s3]
  obtain ⟨C', rfl⟩ := hC
  obtain ⟨S', rfl⟩ := hS
  obtain ⟨r', rfl⟩ := hr
  obtain ⟨i', rfl⟩ := hi
  clear c1 s1 c2 s2 c3 s3 tC tS
  fin_cases k <;> simp only [re, im, turnC, turnS] <;> norm_cast <;> ring

theorem coe_sum {κ : Type} (s : Finset κ) (g : κ → ℝ) : ((∑ d ∈ s, g d : ℝ) : EReal) = ∑ d ∈ s, (g d : EReal) := by
  classical
  induction s using Finset.induction with
  | empty => simp
  | insert a s ha ih => rw [Finset.sum_insert ha, Finset.sum_insert ha, EReal.coe_add, ih]

/-- Real numbers' inner products are real. -/
theorem Reals.dot {ι κ : Type} [Fintype κ] {x y : ι → κ → EReal} (hx : Reals fun p : ι × κ => x p.1 p.2)
    (hy : Reals fun p : ι × κ => y p.1 p.2) : Reals fun i => ∑ d, x i d * y i d := by
  obtain ⟨x', hx⟩ := hx
  obtain ⟨y', hy⟩ := hy
  have ex (i : ι) (d : κ) : x i d = x' (i, d) := congrFun hx (i, d)
  have ey (i : ι) (d : κ) : y i d = y' (i, d) := congrFun hy (i, d)
  refine ⟨fun i => ∑ d, x' (i, d) * y' (i, d), funext fun i => ?_⟩
  simp only [ex, ey, coe_sum, EReal.coe_mul]

end Cert.FourierIdeal.Hand

end
-- ==== Proof.FourierComb.lean ====
/- The Fourier kernel's first stage: the combined quarters of the channel transform, row by row. -/
module

public import proofs.«01_k».proof.Proof.Gen.FourierIdeal.Frame
public import proofs.«01_k».proof.Proof.FourierMath
public import Idealize.ShloMosaic.Lib.Pipeline.ValueKit
public import Idealize.ShloMosaic.Lib.Pointwise
public import Idealize.ShloMosaic.Lib.Pipeline.ReadBack

@[expose] public section

set_option maxRecDepth 16384
set_option maxHeartbeats 2000000

noncomputable section

namespace Cert.FourierIdeal.Hand

open Idealize.ShloMosaic Idealize.SL.Sem Cert.FourierIdeal Cert.FourierIdeal.Gen

/-- Channel `d` of the group of 128 channels that channel `q` is in. -/
def chan (q : Fin 512) (d : Fin 128) : Fin 512 := ⟨q.val / 128 * 128 + d.val, by omega⟩

/-- The real part of the channel transform at row `n`, channel `q`. -/
def zre (f : Vec Ideal S1x4096x512 .bf16) (w : Vec Ideal S128x256 .bf16) (n : Fin 4096) (q : Fin 512) : EReal :=
  ∑ d : Fin 128, f (ix3 0 n (chan q d)) * w (ix2 d ⟨q.val % 128, by omega⟩)

/-- The imaginary part of the channel transform at row `n`, channel `q`. -/
def zim (f : Vec Ideal S1x4096x512 .bf16) (w : Vec Ideal S128x256 .bf16) (n : Fin 4096) (q : Fin 512) : EReal :=
  ∑ d : Fin 128, f (ix3 0 n (chan q d)) * w (ix2 d ⟨128 + q.val % 128, by omega⟩)

theorem zre_of_ite (f : Vec Ideal S1x4096x512 .bf16) (w : Vec Ideal S128x256 .bf16) (n : Fin 4096) (q : ℕ) (hq : q < 512) :
    (if h : q < 128 then ∑ d : Fin 128, f (ix3 0 n ⟨d.val, by omega⟩) * w (ix2 d ⟨q, by omega⟩)
      else if h : q - 128 < 128 then ∑ d : Fin 128, f (ix3 0 n ⟨128 + d.val, by omega⟩) * w (ix2 d ⟨q - 128, by omega⟩)
      else if h : q - 128 - 128 < 128 then
        ∑ d : Fin 128, f (ix3 0 n ⟨256 + d.val, by omega⟩) * w (ix2 d ⟨q - 128 - 128, by omega⟩)
      else ∑ d : Fin 128, f (ix3 0 n ⟨384 + d.val, by omega⟩) * w (ix2 d ⟨q - 128 - 128 - 128, by omega⟩)) =
    zre f w n ⟨q, hq⟩ := by
  unfold zre chan
  split_ifs <;> refine Finset.sum_congr rfl fun d _ => ?_ <;> congr 3 <;> apply Fin.ext <;> dsimp only <;> omega

theorem zim_of_ite (f : Vec Ideal S1x4096x512 .bf16) (w : Vec Ideal S128x256 .bf16) (n : Fin 4096) (q : ℕ) (hq : q < 512) :
    (if h : q < 128 then ∑ d : Fin 128, f (ix3 0 n ⟨d.val, by omega⟩) * w (ix2 d ⟨128 + q, by omega⟩)
      else if h : q - 128 < 128 then ∑ d : Fin 128, f (ix3 0 n ⟨128 + d.val, by omega⟩) * w (ix2 d ⟨128 + (q - 128), by omega⟩)
      else if h : q - 128 - 128 < 128 then
        ∑ d : Fin 128, f (ix3 0 n ⟨256 + d.val, by omega⟩) * w (ix2 d ⟨128 + (q - 128 - 128), by omega⟩)
      else ∑ d : Fin 128, f (ix3 0 n ⟨384 + d.val, by omega⟩) * w (ix2 d ⟨128 + (q - 128 - 128 - 128), by omega⟩)) =
    zim f w n ⟨q, hq⟩ := by
  unfold zim chan
  split_ifs <;> refine Finset.sum_congr rfl fun d _ => ?_ <;> congr 3 <;> apply Fin.ext <;> dsimp only <;> omega

/-- The combined rows: real parts in the first 1024 rows, imaginary parts in the last 1024. -/
def A5 (f : Vec Ideal S1x4096x512 .bf16) (w : Vec Ideal S128x256 .bf16) (k : Fin 4) (b : Fin 2048) (q : Fin 512) : EReal :=
  if h : b.val < 1024 then re k (fun a => zre f w (at4 a ⟨b.val, h⟩) q) (fun a => zim f w (at4 a ⟨b.val, h⟩) q)
  else im k (fun a => zre f w (at4 a ⟨b.val - 1024, by omega⟩) q) (fun a => zim f w (at4 a ⟨b.val - 1024, by omega⟩) q)

theorem A5_re (f : Vec Ideal S1x4096x512 .bf16) (w : Vec Ideal S128x256 .bf16) (k k' : Fin 4) (b : Fin 2048) (q q' : Fin 512)
    (o : ℕ) (n : Fin 4 → Fin 4096) (hk : k.val = k'.val) (hb : b.val = o) (ho : o < 1024) (hn : ∀ a, (n a).val = 1024 * a.val + o) (hq : q.val = q'.val) :
    A5 f w k b q = re k' (fun a => zre f w (n a) q') (fun a => zim f w (n a) q') := by
  obtain rfl : k = k' := Fin.ext hk
  obtain rfl : q = q' := Fin.ext hq
  have : ∀ a, n a = at4 a ⟨b.val, by omega⟩ := fun a => Fin.ext (by rw [hn]; simp [at4, hb])
  simp only [A5, this, dif_pos (show b.val < 1024 by omega)]

theorem A5_im (f : Vec Ideal S1x4096x512 .bf16) (w : Vec Ideal S128x256 .bf16) (k k' : Fin 4) (b : Fin 2048) (q q' : Fin 512)
    (o : ℕ) (n : Fin 4 → Fin 4096) (hk : k.val = k'.val) (hb : b.val = 1024 + o) (ho : o < 1024) (hn : ∀ a, (n a).val = 1024 * a.val + o) (hq : q.val = q'.val) :
    A5 f w k b q = im k' (fun a => zre f w (n a) q') (fun a => zim f w (n a) q') := by
  obtain rfl : k = k' := Fin.ext hk
  obtain rfl : q = q' := Fin.ext hq
  have : ∀ a, n a = at4 a ⟨b.val - 1024, by omega⟩ := fun a => Fin.ext (by rw [hn]; simp [at4]; omega)
  simp only [A5, this, dif_neg (show ¬ b.val < 1024 by omega)]

attribute [irreducible] zre zim

theorem comb (c : Dev nD) (arg1 : Memref sig .tc .vmem S1x4096x512 .bf16) (harg1 : arg1.IsWhole) (arg2 : Memref sig .tc .vmem S128x256 .bf16) (harg2 : arg2.IsWhole)
    (x0 : Vec Ideal S1x4096x512 .bf16) (x1 : Vec Ideal S128x256 .bf16) (y : S4x2048x512.Idx) :
    View.canon (kernelRun0_A.sl.HS0_32 c arg1 harg1 arg2 harg2 x0 x1) y = A5 x0 x1 (y 0) (y 1) (y 2) := by
  frame_out
  canon_tiles x h

  all_goals
    obtain ⟨a, r, q, rfl⟩ : ∃ (a : Fin 1) (r : Fin 256) (q : Fin 512), x = ix3 a r q := ⟨x 0, x 1, x 2, by funext a; fin_cases a <;> rfl⟩
    have e0 : ((ix3 a r q : S1x256x512.Idx) 0).val = a.val := rfl
    have e1 : ((ix3 a r q : S1x256x512.Idx) 1).val = r.val := rfl
    have e2 : ((ix3 a r q : S1x256x512.Idx) 2).val = q.val := rfl
    rw [e0] at h0
    rw [e1] at h1
    rw [e2] at h2
    clear e0 e1 e2 x0_lt x1_lt x2_lt
    have ha := a.isLt
    have hr := r.isLt
    open_payloads
    pointwise []
    first
      | have hk : (y 0).val = 0 := by omega
        have hb : (y 1).val < 1024 := by omega
        refine Eq.trans ?_ (A5_re x0 x1 (y 0) 0 (y 1) (y 2) q _ (fun n => ⟨1024 * n.val + (y 1).val, by omega⟩) hk rfl hb (fun _ => rfl) h2).symm
      | have hk : (y 0).val = 1 := by omega
        have hb : (y 1).val < 1024 := by omega
        refine Eq.trans ?_ (A5_re x0 x1 (y 0) 1 (y 1) (y 2) q _ (fun n => ⟨1024 * n.val + (y 1).val, by omega⟩) hk rfl hb (fun _ => rfl) h2).symm
      | have hk : (y 0).val = 2 := by omega
        have hb : (y 1).val < 1024 := by omega
        refine Eq.trans ?_ (A5_re x0 x1 (y 0) 2 (y 1) (y 2) q _ (fun n => ⟨1024 * n.val + (y 1).val, by omega⟩) hk rfl hb (fun _ => rfl) h2).symm
      | have hk : (y 0).val = 3 := by omega
        have hb : (y 1).val < 1024 := by omega
        refine Eq.trans ?_ (A5_re x0 x1 (y 0) 3 (y 1) (y 2) q _ (fun n => ⟨1024 * n.val + (y 1).val, by omega⟩) hk rfl hb (fun _ => rfl) h2).symm
      | have hk : (y 0).val = 0 := by omega
        have hb : 1024 ≤ (y 1).val := by omega
        refine Eq.trans ?_ (A5_im x0 x1 (y 0) 0 (y 1) (y 2) q ((y 1).val - 1024) (fun n => ⟨1024 * n.val + ((y 1).val - 1024), by omega⟩) hk (by omega) (by omega) (fun _ => rfl) h2).symm
      | have hk : (y 0).val = 1 := by omega
        have hb : 1024 ≤ (y 1).val := by omega
        refine Eq.trans ?_ (A5_im x0 x1 (y 0) 1 (y 1) (y 2) q ((y 1).val - 1024) (fun n => ⟨1024 * n.val + ((y 1).val - 1024), by omega⟩) hk (by omega) (by omega) (fun _ => rfl) h2).symm
      | have hk : (y 0).val = 2 := by omega
        have hb : 1024 ≤ (y 1).val := by omega
        refine Eq.trans ?_ (A5_im x0 x1 (y 0) 2 (y 1) (y 2) q ((y 1).val - 1024) (fun n => ⟨1024 * n.val + ((y 1).val - 1024), by omega⟩) hk (by omega) (by omega) (fun _ => rfl) h2).symm
      | have hk : (y 0).val = 3 := by omega
        have hb : 1024 ≤ (y 1).val := by omega
        refine Eq.trans ?_ (A5_im x0 x1 (y 0) 3 (y 1) (y 2) q ((y 1).val - 1024) (fun n => ⟨1024 * n.val + ((y 1).val - 1024), by omega⟩) hk (by omega) (by omega) (fun _ => rfl) h2).symm
    dsimp only [re, im]
    congr 2
    all_goals
      first
        | show _ = zre _ _ _ _
          refine (zre_of_ite x0 x1 _ _ q.isLt).trans (congrArg (fun n => zre x0 x1 n q) (Fin.ext ?_))
        | show _ = zim _ _ _ _
          refine (zim_of_ite x0 x1 _ _ q.isLt).trans (congrArg (fun n => zim x0 x1 n q) (Fin.ext ?_))
      simp
      try omega

end Cert.FourierIdeal.Hand

end
-- ==== Proof.FourierRows.lean ====
/- The Fourier kernel's output block, index by index, from its input blocks. -/
module

public import proofs.«01_k».proof.Proof.Gen.FourierIdeal.Frame
public import proofs.«01_k».proof.Proof.FourierComb
public import Idealize.ShloMosaic.Lib.Pipeline.ValueKit
public import Idealize.ShloMosaic.Lib.Pointwise
public import Idealize.ShloMosaic.Lib.Pipeline.ReadBack

@[expose] public section

set_option maxRecDepth 16384
set_option maxHeartbeats 2000000

noncomputable section

namespace Cert.FourierIdeal.Hand

open Idealize.ShloMosaic Idealize.SL.Sem Cert.FourierIdeal Cert.FourierIdeal.Gen

/-- The transformed rows, grouped by their number modulo four: row `4 p + k`, channel `q`. -/
def Y6 (f : Vec Ideal S1x4096x512 .bf16) (w : Vec Ideal S128x256 .bf16) (g : Vec Ideal S4x1024x2048 .bf16) (k : Fin 4) (p : Fin 1024) (q : Fin 512) : EReal :=
  ∑ j : Fin 2048, g (ix3 k p j) * A5 f w k j q

theorem Y6_congr (f : Vec Ideal S1x4096x512 .bf16) (w : Vec Ideal S128x256 .bf16) (g : Vec Ideal S4x1024x2048 .bf16) {k k' : Fin 4} {p p' : Fin 1024} {q q' : Fin 512}
    (hk : k.val = k'.val) (hp : p.val = p'.val) (hq : q.val = q'.val) : Y6 f w g k p q = Y6 f w g k' p' q' := by
  rw [Fin.ext hk, Fin.ext hp, Fin.ext hq]

theorem v516 (c : Dev nD) (arg1 : Memref sig .tc .vmem S1x4096x512 .bf16) (harg1 : arg1.IsWhole) (arg2 : Memref sig .tc .vmem S128x256 .bf16) (harg2 : arg2.IsWhole)
    (arg5 : Memref sig .tc .vmem S4x2048x512 .bf16) (x0 : Vec Ideal S1x4096x512 .bf16) (x1 : Vec Ideal S128x256 .bf16) :
    kernelRun0_A.sl.v516 c arg1 harg1 arg2 harg2 arg5 x0 x1 = fun y => A5 x0 x1 0 (y 1) (y 2) := by
  unfold kernelRun0_A.sl.v516
  rw [View.readCov_eq_canon']
  funext y
  rw [comb]
  congr 1 <;> apply Fin.ext <;> simp [LoadRect.idx]

theorem v525 (c : Dev nD) (arg1 : Memref sig .tc .vmem S1x4096x512 .bf16) (harg1 : arg1.IsWhole) (arg2 : Memref sig .tc .vmem S128x256 .bf16) (harg2 : arg2.IsWhole)
    (arg5 : Memref sig .tc .vmem S4x2048x512 .bf16) (x0 : Vec Ideal S1x4096x512 .bf16) (x1 : Vec Ideal S128x256 .bf16) :
    kernelRun0_A.sl.v525 c arg1 harg1 arg2 harg2 arg5 x0 x1 = fun y => A5 x0 x1 1 (y 1) (y 2) := by
  unfold kernelRun0_A.sl.v525
  rw [View.readCov_eq_canon']
  funext y
  rw [comb]
  congr 1 <;> apply Fin.ext <;> simp [LoadRect.idx]

theorem v534 (c : Dev nD) (arg1 : Memref sig .tc .vmem S1x4096x512 .bf16) (harg1 : arg1.IsWhole) (arg2 : Memref sig .tc .vmem S128x256 .bf16) (harg2 : arg2.IsWhole)
    (arg5 : Memref sig .tc .vmem S4x2048x512 .bf16) (x0 : Vec Ideal S1x4096x512 .bf16) (x1 : Vec Ideal S128x256 .bf16) :
    kernelRun0_A.sl.v534 c arg1 harg1 arg2 harg2 arg5 x0 x1 = fun y => A5 x0 x1 2 (y 1) (y 2) := by
  unfold kernelRun0_A.sl.v534
  rw [View.readCov_eq_canon']
  funext y
  rw [comb]
  congr 1 <;> apply Fin.ext <;> simp [LoadRect.idx]

theorem v543 (c : Dev nD) (arg1 : Memref sig .tc .vmem S1x4096x512 .bf16) (harg1 : arg1.IsWhole) (arg2 : Memref sig .tc .vmem S128x256 .bf16) (harg2 : arg2.IsWhole)
    (arg5 : Memref sig .tc .vmem S4x2048x512 .bf16) (x0 : Vec Ideal S1x4096x512 .bf16) (x1 : Vec Ideal S128x256 .bf16) :
    kernelRun0_A.sl.v543 c arg1 harg1 arg2 harg2 arg5 x0 x1 = fun y => A5 x0 x1 3 (y 1) (y 2) := by
  unfold kernelRun0_A.sl.v543
  rw [View.readCov_eq_canon']
  funext y
  rw [comb]
  congr 1 <;> apply Fin.ext <;> simp [LoadRect.idx]

theorem rows (c : Dev nD) (arg1 : Memref sig .tc .vmem S1x4096x512 .bf16) (harg1 : arg1.IsWhole) (arg2 : Memref sig .tc .vmem S128x256 .bf16) (harg2 : arg2.IsWhole)
    (arg3 : Memref sig .tc .vmem S4x1024x2048 .bf16) (harg3 : arg3.IsWhole) (arg5 : Memref sig .tc .vmem S4x2048x512 .bf16)
    (x0 : Vec Ideal S1x4096x512 .bf16) (x1 : Vec Ideal S128x256 .bf16) (x2 : Vec Ideal S4x1024x2048 .bf16) (y : S4x1024x512.Idx) :
    View.canon (kernelRun0_A.sl.HS1_4 c arg1 harg1 arg2 harg2 arg3 harg3 arg5 x0 x1 x2) y = Y6 x0 x1 x2 (y 0) (y 1) (y 2) := by
  unfold kernelRun0_A.sl.HS1_4
  rw [v516, v525, v534, v543]
  frame_out
  canon_tiles x h
  all_goals
    unfold Y6
    open_payloads
    pointwise []
    refine Finset.sum_congr rfl fun j _ => ?_
    refine congrArg₂ (· * ·) (congrArg x2 (funext fun a => ?_)) (congrArg₂ (fun k q => A5 x0 x1 k j q) (Fin.ext ?_) (Fin.ext ?_))
    · fin_cases a <;> apply Fin.ext <;> simp <;> omega
    · simp; omega
    · simp; omega

attribute [irreducible] Y6

theorem load6 (c : Dev nD) (arg1 : Memref sig .tc .vmem S1x4096x512 .bf16) (harg1 : arg1.IsWhole) (arg2 : Memref sig .tc .vmem S128x256 .bf16) (harg2 : arg2.IsWhole)
    (arg3 : Memref sig .tc .vmem S4x1024x2048 .bf16) (harg3 : arg3.IsWhole) (arg5 : Memref sig .tc .vmem S4x2048x512 .bf16) (v : View sig .tc .vmem S4x1024x512 .bf16)
    (x0 : Vec Ideal S1x4096x512 .bf16) (x1 : Vec Ideal S128x256 .bf16) (x2 : Vec Ideal S4x1024x2048 .bf16) (k o : ℕ) (hk : k < 4) (ho : o ≤ 896)
    (inb : ∀ a, (![k, o, 0] : Fin 3 → ℕ) a + (![1, 128, 512] : Fin 3 → ℕ) a ≤ S4x1024x512.size a) :
    v.readCov (kernelRun0_A.sl.HS1_4 c arg1 harg1 arg2 harg2 arg3 harg3 arg5 x0 x1 x2) (Rect.unit (s := S4x1024x512) ![k, o, 0] ![1, 128, 512] inb).toLoadRect =
      fun y => Y6 x0 x1 x2 ⟨k, hk⟩ ⟨o + (y 1).val, by have h : (y 1).val < 128 := (y 1).isLt; omega⟩ (y 2) := by
  rw [View.readCov_eq_canon']
  funext y
  rw [rows]
  have h : (y 0).val < 1 := (y 0).isLt
  congr 1 <;> apply Fin.ext <;> simp [LoadRect.idx] <;> omega

theorem perm (r c : Fin 512) :
    k0_pay207 (F := Ideal) kernelRun0_A.sl.v550 kernelRun0_A.sl.v551 127#32 (ix2 r c) =
      if r.val = 4 * (c.val % 128) + c.val / 128 then 1 else 0 := by
  unfold k0_pay207 kernelRun0_A.sl.v550 kernelRun0_A.sl.v551
  pointwise []
  have h : ∀ c : Fin 512, IntOp.addi (IntOp.muli 4#32 (IntOp.andi (BitVec.ofNat 32 c.val) 127#32)) (IntOp.shrsi ArithUnit.vector (BitVec.ofNat 32 c.val) 7#32) =
    BitVec.ofNat 32 (4 * (c.val % 128) + c.val / 128) := by decide +kernel
  rw [h c]
  have e : (BitVec.ofNat 32 r.val = BitVec.ofNat 32 (4 * (c.val % 128) + c.val / 128)) ↔ r.val = 4 * (c.val % 128) + c.val / 128 := by
    rw [← BitVec.toNat_inj, BitVec.toNat_ofNat, BitVec.toNat_ofNat, Nat.mod_eq_of_lt (by omega), Nat.mod_eq_of_lt (by omega)]
  by_cases hh : r.val = 4 * (c.val % 128) + c.val / 128
  · rw [if_pos hh]
    simp [Scalar.select, IntOp.cmpi, e.mpr hh]
  · rw [if_neg hh]
    have hn : (BitVec.ofNat 32 r.val == BitVec.ofNat 32 (4 * (c.val % 128) + c.val / 128)) = false := beq_eq_false_iff_ne.mpr (mt e.mp hh)
    simp only [Scalar.select, IntOp.cmpi, hn]
    simp

/-- A sum against the permutation's row picks one term. -/
theorem sum_perm (P : Vec Ideal S512x512 .bf16) (hP : ∀ r c : Fin 512, P (ix2 r c) = if r.val = 4 * (c.val % 128) + c.val / 128 then 1 else 0)
    (r : Fin 512) (g : Fin 512 → EReal) :
    ∑ c : Fin 512, P (ix2 r c) * g c = g ⟨r.val % 4 * 128 + r.val / 4, by omega⟩ := by
  rw [Finset.sum_eq_single (⟨r.val % 4 * 128 + r.val / 4, by omega⟩ : Fin 512)]
  · rw [hP, if_pos (by dsimp only; omega), one_mul]
  · intro c _ hc
    rw [hP, if_neg, zero_mul]
    intro h
    exact hc (Fin.ext (by dsimp only; omega))
  · simp

variable (m : (ℓ : Loc nD τ sig) → Buf (Elt Ideal) ℓ)

theorem outp (c : Dev nD) (t : Fin cfg0.N) (y : S1x4096x512.Idx) :
    outsAt0 m c t y = Y6 (iblk m c 0 t) (iblk m c 1 t) (iblk m c 2 t) ⟨(y 1).val % 4, by omega⟩
      ⟨(y 1).val / 4, by have h : (y 1).val < 4096 := (y 1).isLt; omega⟩ (y 2) := by
  unfold outsAt0 out0_A_3
  unfold kernelRun0_A
  dsimp only
  rw [View.read_writes_junk_apply_eq_canon]
  canon_tiles x h
  all_goals
    obtain ⟨a, r, q, rfl⟩ : ∃ (a : Fin 1) (r : Fin 512) (q : Fin 512), x = ix3 a r q := ⟨x 0, x 1, x 2, by funext a; fin_cases a <;> rfl⟩
    have e1 : ((ix3 a r q : S1x512x512.Idx) 1).val = r.val := rfl
    have e2 : ((ix3 a r q : S1x512x512.Idx) 2).val = q.val := rfl
    rw [e1] at h1
    rw [e2] at h2
    clear e1 e2 h0 x0_lt x1_lt x2_lt
    simp only [kernelRun0_A.sl.v564, kernelRun0_A.sl.v566, kernelRun0_A.sl.v568, kernelRun0_A.sl.v570, kernelRun0_A.sl.v578, kernelRun0_A.sl.v580, kernelRun0_A.sl.v582, kernelRun0_A.sl.v584, kernelRun0_A.sl.v592, kernelRun0_A.sl.v594, kernelRun0_A.sl.v596, kernelRun0_A.sl.v598, kernelRun0_A.sl.v606, kernelRun0_A.sl.v608, kernelRun0_A.sl.v610, kernelRun0_A.sl.v612, kernelRun0_A.sl.v620, kernelRun0_A.sl.v622, kernelRun0_A.sl.v624, kernelRun0_A.sl.v626, kernelRun0_A.sl.v634, kernelRun0_A.sl.v636, kernelRun0_A.sl.v638, kernelRun0_A.sl.v640, kernelRun0_A.sl.v648, kernelRun0_A.sl.v650, kernelRun0_A.sl.v652, kernelRun0_A.sl.v654, kernelRun0_A.sl.v662, kernelRun0_A.sl.v664, kernelRun0_A.sl.v666, kernelRun0_A.sl.v668, kernelRun0_A.sl.r_70, kernelRun0_A.sl.r_71, kernelRun0_A.sl.r_72, kernelRun0_A.sl.r_73, kernelRun0_A.sl.r_74, kernelRun0_A.sl.r_75, kernelRun0_A.sl.r_76]
    try unfold k0_pay208
    rw [load6 _ _ _ _ _ _ _ _ _ _ _ _ 0 _ (by decide), load6 _ _ _ _ _ _ _ _ _ _ _ _ 1 _ (by decide),
      load6 _ _ _ _ _ _ _ _ _ _ _ _ 2 _ (by decide), load6 _ _ _ _ _ _ _ _ _ _ _ _ 3 _ (by decide)]
    rotate_left
    · decide
    · decide
    · decide
    · decide
    obtain ⟨P, hP⟩ : ∃ P, k0_pay207 (F := Ideal) kernelRun0_A.sl.v550 kernelRun0_A.sl.v551 127#32 = P := ⟨_, rfl⟩
    have hP' := perm
    rw [hP] at hP' ⊢
    clear hP
    generalize iblk m c 0 t = X0
    generalize iblk m c 1 t = X1
    generalize iblk m c 2 t = X2
    open_payloads
    pointwise []
    refine (sum_perm P hP' r _).trans ?_
    dsimp only
    have hr := r.isLt
    have hy : (y 1).val < 4096 := (y 1).isLt
    have h4 : r.val % 4 = 0 ∨ r.val % 4 = 1 ∨ r.val % 4 = 2 ∨ r.val % 4 = 3 := by omega
    split_ifs <;> refine Y6_congr X0 X1 X2 ?_ ?_ h2.symm <;> dsimp only <;> rcases h4 with h4 | h4 | h4 | h4 <;> omega

end Cert.FourierIdeal.Hand

end
-- ==== Proof.FourierBlk.lean ====
/- The Fourier kernel's input blocks, index by index, as functions of its arguments. -/
module

public import proofs.«01_k».proof.Proof.FourierMath
public import proofs.«01_k».proof.Proof.Gen.FourierIdeal.Frame
public import Idealize.ShloMosaic.Lib.Pipeline.ValueKit
public import Idealize.ShloMosaic.Lib.Pointwise
public import Idealize.ShloMosaic.Lib.Pipeline.ReadBack
public import Idealize.ShloMosaic.Lib.StableHlo.RunRead

@[expose] public section

set_option maxRecDepth 16384
set_option maxHeartbeats 2000000

noncomputable section

namespace Cert.FourierIdeal.Hand

open Idealize.ShloMosaic Idealize.SL.Sem Cert.FourierIdeal Cert.FourierIdeal.Gen

/-- The two parts of the channel transform's matrix, side by side. -/
def WG (WR WI : Vec Ideal S128x128 .bf16) : Vec Ideal S128x256 .bf16 := fun y =>
  if h : (y 1).val < 128 then WR (ix2 (y 0) ⟨(y 1).val, h⟩)
  else WI (ix2 (y 0) ⟨(y 1).val - 128, by have h : (y 1).val < 256 := (y 1).isLt; omega⟩)

/-- The first quarter of the tables, row `4 p + k` at `(k, p)`, the cosines and the sines side by side. -/
def TAB (CT ST : Vec Ideal S4096x4096 .bf16) : Vec Ideal S4x1024x2048 .bf16 := fun y =>
  have h0 : (y 0).val < 4 := (y 0).isLt
  have h1 : (y 1).val < 1024 := (y 1).isLt
  have h2 : (y 2).val < 2048 := (y 2).isLt
  if h : (y 2).val < 1024 then CT (ix2 ⟨4 * (y 1).val + (y 0).val, by omega⟩ ⟨(y 2).val, by omega⟩)
  else ST (ix2 ⟨4 * (y 1).val + (y 0).val, by omega⟩ ⟨(y 2).val - 1024, by omega⟩)

variable (m : (ℓ : Loc nD τ sig) → Buf (Elt Ideal) ℓ)

/-- The block each window is on at grid point `t`. -/
theorem idx : ∀ t : Fin cfg0.N,
    win0_0.index t = ![t.val, 0, 0] ∧ win0_1.index t = ![0, 0] ∧ win0_2.index t = ![0, 0, 0] ∧ win0_3.index t = ![t.val, 0, 0] :=
  (by decide +kernel : ∀ t : Fin grid0.N, _)

theorem blk0 (c : Dev nD) (t : Fin cfg0.N) : iblk m c 0 t = fun i : S1x4096x512.Idx => (m (c.tc.loc main_arg0) : Vec Ideal S8x4096x512 .bf16) (ix3 ⟨t.val, t.isLt⟩ (i 1) (i 2)) := by
  funext i
  have h : (i 0).val < 1 := (i 0).isLt
  blk_point [iblk, V, idx t]

theorem vWG (c : Dev nD) (d : Fin 128) (q : Fin 256) : (V m c main_v0 : Vec Ideal S128x256 .bf16) (ix2 d q) =
    WG (m (c.tc.loc main_arg1)) (m (c.tc.loc main_arg2)) (ix2 d q) := by
  generalize hR : WG (m (c.tc.loc main_arg1)) (m (c.tc.loc main_arg2)) (ix2 d q) = R
  unfold V
  entry_read
  rw [← hR]
  clear hR
  generalize (m (c.tc.loc main_arg1)) = WR
  generalize (m (c.tc.loc main_arg2)) = WI
  pointwise [WG]

theorem blk1 (c : Dev nD) (t : Fin cfg0.N) : iblk m c 1 t = WG (m (c.tc.loc main_arg1)) (m (c.tc.loc main_arg2)) := by
  funext i
  obtain ⟨d, q, rfl⟩ : ∃ (d : Fin 128) (q : Fin 256), i = ix2 d q := ⟨i 0, i 1, by funext a; fin_cases a <;> rfl⟩
  refine Eq.trans (congrArg (V m c main_v0) (?_ : (win0_1.blk t).view.emb (ix2 d q) = ix2 d q)) (vWG m c d q)
  funext a
  match a with
  | ⟨0, _⟩ => apply Fin.ext; blk_simp [idx t]
  | ⟨1, _⟩ => apply Fin.ext; blk_simp [idx t]

theorem tab_host (CT ST : Vec Ideal S4096x4096 .bf16) :
    concatenate S4x1024x2048 0
      [⟨S1x1024x2048, broadcastInDim S1x1024x2048 ![1, 2] bcast_S1024x2048_S1x1024x2048_1_2 (concatenate S1024x2048 1 [⟨S1024x1024, Host.slice S1024x1024 ![0, 0] ![4, 1] CT slicesBy_S4096x4096_S1024x1024_0s4_0s1⟩, ⟨S1024x1024, Host.slice S1024x1024 ![0, 0] ![4, 1] ST slicesBy_S4096x4096_S1024x1024_0s4_0s1⟩] concatenates_S1024x1024_S1024x1024_S1024x2048_d1)⟩,
       ⟨S1x1024x2048, broadcastInDim S1x1024x2048 ![1, 2] bcast_S1024x2048_S1x1024x2048_1_2 (concatenate S1024x2048 1 [⟨S1024x1024, Host.slice S1024x1024 ![1, 0] ![4, 1] CT slicesBy_S4096x4096_S1024x1024_1s4_0s1⟩, ⟨S1024x1024, Host.slice S1024x1024 ![1, 0] ![4, 1] ST slicesBy_S4096x4096_S1024x1024_1s4_0s1⟩] concatenates_S1024x1024_S1024x1024_S1024x2048_d1)⟩,
       ⟨S1x1024x2048, broadcastInDim S1x1024x2048 ![1, 2] bcast_S1024x2048_S1x1024x2048_1_2 (concatenate S1024x2048 1 [⟨S1024x1024, Host.slice S1024x1024 ![2, 0] ![4, 1] CT slicesBy_S4096x4096_S1024x1024_2s4_0s1⟩, ⟨S1024x1024, Host.slice S1024x1024 ![2, 0] ![4, 1] ST slicesBy_S4096x4096_S1024x1024_2s4_0s1⟩] concatenates_S1024x1024_S1024x1024_S1024x2048_d1)⟩,
       ⟨S1x1024x2048, broadcastInDim S1x1024x2048 ![1, 2] bcast_S1024x2048_S1x1024x2048_1_2 (concatenate S1024x2048 1 [⟨S1024x1024, Host.slice S1024x1024 ![3, 0] ![4, 1] CT slicesBy_S4096x4096_S1024x1024_3s4_0s1⟩, ⟨S1024x1024, Host.slice S1024x1024 ![3, 0] ![4, 1] ST slicesBy_S4096x4096_S1024x1024_3s4_0s1⟩] concatenates_S1024x1024_S1024x1024_S1024x2048_d1)⟩]
      concatenates_S1x1024x2048_S1x1024x2048_S1x1024x2048_S1x1024x2048_S4x1024x2048_d0 = TAB CT ST := by
  funext y
  obtain ⟨k, p, j, rfl⟩ : ∃ (k : Fin 4) (p : Fin 1024) (j : Fin 2048), y = ix3 k p j := ⟨y 0, y 1, y 2, by funext a; fin_cases a <;> rfl⟩
  pointwise [TAB]
  blk_point []
  all_goals (exfalso; omega)

theorem vTAB (c : Dev nD) (k : Fin 4) (p : Fin 1024) (j : Fin 2048) : (V m c main_v17 : Vec Ideal S4x1024x2048 .bf16) (ix3 k p j) =
    TAB (m (c.tc.loc main_arg3)) (m (c.tc.loc main_arg4)) (ix3 k p j) := by
  rw [← tab_host]
  generalize hR : concatenate S4x1024x2048 0 _ _ (ix3 k p j) = R
  after_reads_simp
  rw [← hR]
  rfl

theorem blk2 (c : Dev nD) (t : Fin cfg0.N) : iblk m c 2 t = TAB (m (c.tc.loc main_arg3)) (m (c.tc.loc main_arg4)) := by
  funext i
  obtain ⟨k, p, j, rfl⟩ : ∃ (k : Fin 4) (p : Fin 1024) (j : Fin 2048), i = ix3 k p j := ⟨i 0, i 1, i 2, by funext a; fin_cases a <;> rfl⟩
  refine Eq.trans (congrArg (V m c main_v17) (?_ : (win0_2.blk t).view.emb (ix3 k p j) = ix3 k p j)) (vTAB m c k p j)
  funext a
  match a with
  | ⟨0, _⟩ => apply Fin.ext; blk_simp [idx t]
  | ⟨1, _⟩ => apply Fin.ext; blk_simp [idx t]
  | ⟨2, _⟩ => apply Fin.ext; blk_simp [idx t]

end Cert.FourierIdeal.Hand

end
-- ==== Proof.FourierFinal.lean ====
/- The Fourier kernel's output array, index by index, as a function of its arguments. -/
module

public import proofs.«01_k».proof.Proof.FourierRows
public import proofs.«01_k».proof.Proof.FourierBlk
public import proofs.«01_k».proof.Proof.Gen.FourierIdeal.Frame
public import Idealize.ShloMosaic.Lib.Pipeline.ValueKit
public import Idealize.ShloMosaic.Lib.Pointwise
public import Idealize.ShloMosaic.Lib.Pipeline.ReadBack

@[expose] public section

set_option maxRecDepth 16384
set_option maxHeartbeats 2000000

noncomputable section

namespace Cert.FourierIdeal.Hand

open Idealize.ShloMosaic Idealize.SL.Sem Cert.FourierIdeal Cert.FourierIdeal.Gen

/-- The transform of batch element `j 0` at row `j 1`, channel `j 2`. -/
def SPEC (X : Vec Ideal S8x4096x512 .bf16) (WR WI : Vec Ideal S128x128 .bf16) (CT ST : Vec Ideal S4096x4096 .bf16) (j : S8x4096x512.Idx) : EReal :=
  Y6 (fun i => X (ix3 (j 0) (i 1) (i 2))) (WG WR WI) (TAB CT ST) ⟨(j 1).val % 4, by omega⟩
    ⟨(j 1).val / 4, by have h : (j 1).val < 4096 := (j 1).isLt; omega⟩ (j 2)

variable (m : (ℓ : Loc nD τ sig) → Buf (Elt Ideal) ℓ)

/-- What point `t` leaves in the output block. -/
theorem point (c : Dev nD) (t : Fin cfg0.N) (y : S1x4096x512.Idx) (j : S8x4096x512.Idx)
    (hj0 : (j 0 : ℕ) = t.val) (hj1 : (j 1 : ℕ) = y 1) (hj2 : (j 2 : ℕ) = y 2) :
    outsAt0 m c t y = SPEC (m (c.tc.loc main_arg0)) (m (c.tc.loc main_arg1)) (m (c.tc.loc main_arg2))
      (m (c.tc.loc main_arg3)) (m (c.tc.loc main_arg4)) j := by
  rw [outp, blk0, blk1, blk2]
  unfold SPEC
  have e : (⟨t.val, t.isLt⟩ : Fin 8) = j 0 := Fin.ext hj0.symm
  rw [e]
  refine Y6_congr _ _ _ ?_ ?_ hj2.symm
  · exact congrArg (· % 4) hj1.symm
  · exact congrArg (· / 4) hj1.symm

/-- The output array after the run. -/
theorem final (c : Dev nD) : (dats m 0 c).arrAt 3 cfg0.N =
    SPEC (m (c.tc.loc main_arg0)) (m (c.tc.loc main_arg1)) (m (c.tc.loc main_arg2))
      (m (c.tc.loc main_arg3)) (m (c.tc.loc main_arg4)) := by
  refine (dats m 0 c).arrAt_eq_of_covers 3 _ (by decide +kernel) fun t hf y => ?_
  blk_simp
  rw [after0_3]
  refine point m c t y _ ?_ ?_ ?_
  all_goals (blk_simp [idx t] <;> try omega)

end Cert.FourierIdeal.Hand

end
-- ==== Proof.FourierPre.lean ====
/- What the Fourier program's precondition says of its arguments. -/
module

public import proofs.«01_k».proof.Defs
public import proofs.«01_k».proof.Proof.FourierMath
public import Idealize.ShloMosaic.Lib.Pipeline.ValueKit
public import Idealize.ShloMosaic.Lib.Pointwise
public import Idealize.ShloMosaic.Lib.Tactic.ValueTie

@[expose] public section

set_option maxRecDepth 16384
set_option maxHeartbeats 2000000

noncomputable section

namespace Cert.FourierIdeal.Hand

open Idealize.ShloMosaic Idealize.SL.Sem

/-- Row `4 p + k` of the tables. -/
def row (k : Fin 4) (p : Fin 1024) : Fin 4096 := ⟨4 * p.val + k.val, by omega⟩

/-- The arguments are real numbers, and the tables' rows turn by quarter turns from quarter to quarter. -/
structure Turned (X : Vec Ideal Cert.FourierIdeal.S8x4096x512 .bf16) (WR WI : Vec Ideal Cert.FourierIdeal.S128x128 .bf16)
    (CT ST : Vec Ideal Cert.FourierIdeal.S4096x4096 .bf16) : Prop where
  x : Reals X
  wr : Reals WR
  wi : Reals WI
  ct : Reals CT
  st : Reals ST
  tc : ∀ (k : Fin 4) (p : Fin 1024) (n : ℕ) (h : n + 1024 < 4096),
    CT (ix2 (row k p) ⟨n + 1024, h⟩) = turnC k (CT (ix2 (row k p) ⟨n, by omega⟩)) (ST (ix2 (row k p) ⟨n, by omega⟩))
  ts : ∀ (k : Fin 4) (p : Fin 1024) (n : ℕ) (h : n + 1024 < 4096),
    ST (ix2 (row k p) ⟨n + 1024, h⟩) = turnS k (CT (ix2 (row k p) ⟨n, by omega⟩)) (ST (ix2 (row k p) ⟨n, by omega⟩))

theorem real_of_lt (x : EReal) (h : Ideal.cmp .olt (max x (-x)) (Ideal.ofBits .f32 0x7F800000#32) = 1#1) : ((x.toReal : ℝ) : EReal) = x := by
  have e : Ideal.ofBits .f32 0x7F800000#32 = ⊤ := by simp [Ideal.ofBits, Ideal.ieee]
  rw [e] at h
  induction x using EReal.rec with
  | coe r => rfl
  | top => simp [Ideal.cmp] at h
  | bot => simp [Ideal.cmp] at h

theorem reals_of_lt {ι : Type} (x : ι → EReal) (h : ∀ i, Ideal.cmp .olt (max (x i) (-(x i))) (Ideal.ofBits .f32 0x7F800000#32) = 1#1) : Reals x :=
  ⟨fun i => (x i).toReal, funext fun i => (real_of_lt _ (h i)).symm⟩

theorem eq_of_cmp (x y : EReal) (h : Ideal.cmp .oeq x y = 1#1) : x = y := by
  by_contra hn
  simp [Ideal.cmp, hn] at h

variable [hPre : Cert.Pre_fourier_tables.Facts]

open Cert.Pre_fourier_tables in
theorem turned (X : Vec Ideal Cert.FourierIdeal.S8x4096x512 .bf16) (WR WI : Vec Ideal Cert.FourierIdeal.S128x128 .bf16)
    (CT ST : Vec Ideal Cert.FourierIdeal.S4096x4096 .bf16)
    (h : (fn (F := Ideal) X WR WI CT ST).1 = (fun _ => 1#1) ∧ (fn (F := Ideal) X WR WI CT ST).2.1 = (fun _ => 1#1)
      ∧ (fn (F := Ideal) X WR WI CT ST).2.2.1 = (fun _ => 1#1) ∧ (fn (F := Ideal) X WR WI CT ST).2.2.2.1 = (fun _ => 1#1)
      ∧ (fn (F := Ideal) X WR WI CT ST).2.2.2.2.1 = (fun _ => 1#1) ∧ (fn (F := Ideal) X WR WI CT ST).2.2.2.2.2.1 = (fun _ => 1#1)
      ∧ (fn (F := Ideal) X WR WI CT ST).2.2.2.2.2.2.1 = (fun _ => 1#1) ∧ (fn (F := Ideal) X WR WI CT ST).2.2.2.2.2.2.2.1 = (fun _ => 1#1)
      ∧ (fn (F := Ideal) X WR WI CT ST).2.2.2.2.2.2.2.2.1 = (fun _ => 1#1) ∧ (fn (F := Ideal) X WR WI CT ST).2.2.2.2.2.2.2.2.2.1 = (fun _ => 1#1)
      ∧ (fn (F := Ideal) X WR WI CT ST).2.2.2.2.2.2.2.2.2.2.1 = (fun _ => 1#1)
      ∧ (fn (F := Ideal) X WR WI CT ST).2.2.2.2.2.2.2.2.2.2.2.1 = (fun _ => 1#1)
      ∧ (fn (F := Ideal) X WR WI CT ST).2.2.2.2.2.2.2.2.2.2.2.2 = (fun _ => 1#1)) : Turned X WR WI CT ST := by
  unfold fn fn_part1 fn_part2 at h
  dsimp only at h
  obtain ⟨h0, h1, h2, h3, h4, c0, s0, c1, s1, c2, s2, c3, s3⟩ := h
  have eqs (k : Fin 4) (p : Fin 1024) (n : ℕ) (h : n + 1024 < 4096) :
      CT (ix2 (row k p) ⟨n + 1024, h⟩) = turnC k (CT (ix2 (row k p) ⟨n, by omega⟩)) (ST (ix2 (row k p) ⟨n, by omega⟩)) ∧
      ST (ix2 (row k p) ⟨n + 1024, h⟩) = turnS k (CT (ix2 (row k p) ⟨n, by omega⟩)) (ST (ix2 (row k p) ⟨n, by omega⟩)) := by
    have at1 (k1 : ℕ) (hk1 : k1 < 4) (hk : k = ⟨k1, hk1⟩) (V : Vec Ideal Cert.FourierIdeal.S4096x4096 .bf16) (hs : Cert.Pre_fourier_tables.S4096x4096.SlicesBy (![k1, 1024] : Fin 2 → Nat) ![4, 1] S1024x3072) :
        Host.slice S1024x3072 ![k1, 1024] ![4, 1] V hs (ix2 p ⟨n, by omega⟩) = V (ix2 (row k p) ⟨n + 1024, h⟩) := by
      rw [Host.slice_apply, Shape.Idx.norm_def]
      refine congrArg V (funext fun a => ?_)
      subst hk
      fin_cases a <;> apply Fin.ext <;> simp [row] <;> omega
    have at0 (k1 : ℕ) (hk1 : k1 < 4) (hk : k = ⟨k1, hk1⟩) (V : Vec Ideal Cert.FourierIdeal.S4096x4096 .bf16) (hs : Cert.Pre_fourier_tables.S4096x4096.SlicesBy (![k1, 0] : Fin 2 → Nat) ![4, 1] S1024x3072) :
        Host.slice S1024x3072 ![k1, 0] ![4, 1] V hs (ix2 p ⟨n, by omega⟩) = V (ix2 (row k p) ⟨n, by omega⟩) := by
      rw [Host.slice_apply, Shape.Idx.norm_def]
      refine congrArg V (funext fun a => ?_)
      subst hk
      fin_cases a <;> apply Fin.ext <;> simp [row] <;> omega
    obtain rfl | rfl | rfl | rfl : k = 0 ∨ k = 1 ∨ k = 2 ∨ k = 3 := by omega
    · have c := eq_of_cmp _ _ (congrFun c0 (ix2 p ⟨n, by omega⟩))
      have s := eq_of_cmp _ _ (congrFun s0 (ix2 p ⟨n, by omega⟩))
      rw [at1 0 (by omega) rfl, at0 0 (by omega) rfl] at c s
      exact ⟨c, s⟩
    · have c := eq_of_cmp _ (-(Host.slice S1024x3072 _ _ _ _ _)) (congrFun c1 (ix2 p ⟨n, by omega⟩))
      have s := eq_of_cmp _ _ (congrFun s1 (ix2 p ⟨n, by omega⟩))
      rw [at1 1 (by omega) rfl, at0 1 (by omega) rfl] at c s
      exact ⟨c, s⟩
    · have c := eq_of_cmp _ (-(Host.slice S1024x3072 _ _ _ _ _)) (congrFun c2 (ix2 p ⟨n, by omega⟩))
      have s := eq_of_cmp _ (-(Host.slice S1024x3072 _ _ _ _ _)) (congrFun s2 (ix2 p ⟨n, by omega⟩))
      rw [at1 2 (by omega) rfl, at0 2 (by omega) rfl] at c s
      exact ⟨c, s⟩
    · have c := eq_of_cmp _ _ (congrFun c3 (ix2 p ⟨n, by omega⟩))
      have s := eq_of_cmp _ (-(Host.slice S1024x3072 _ _ _ _ _)) (congrFun s3 (ix2 p ⟨n, by omega⟩))
      rw [at1 3 (by omega) rfl, at0 3 (by omega) rfl] at c s
      exact ⟨c, s⟩
  exact ⟨reals_of_lt _ fun i => congrFun h0 i, reals_of_lt _ fun i => congrFun h1 i, reals_of_lt _ fun i => congrFun h2 i,
    reals_of_lt _ fun i => congrFun h3 i, reals_of_lt _ fun i => congrFun h4 i, fun k p n h => (eqs k p n h).1, fun k p n h => (eqs k p n h).2⟩

end Cert.FourierIdeal.Hand

end
-- ==== Proof.FourierClose.lean ====
/- The Fourier kernel and its reference compute the same array. -/
module

public import proofs.«01_k».proof.Proof.FourierRows
public import proofs.«01_k».proof.Proof.FourierBlk
public import proofs.«01_k».proof.Proof.FourierFinal
public import proofs.«01_k».proof.Proof.FourierPre
public import proofs.«01_k».proof.Proof.Gen.FourierIdeal.Value
public import proofs.«01_k».proof.Proof.Gen.FourierRefIdeal.Run
public import proofs.«01_k».proof.Proof.Gen.Pre_fourier_tables
public import Idealize.ShloMosaic.Lib.Tactic.ValueTie
public import proofs.«01_k».proof.Proof.Gen.FourierIdeal.Frame
public import Idealize.ShloMosaic.Lib.Pipeline.ValueKit
public import Idealize.ShloMosaic.Lib.Pointwise
public import Idealize.ShloMosaic.Lib.Pipeline.ReadBack

@[expose] public section

set_option maxRecDepth 16384
set_option maxHeartbeats 2000000

noncomputable section

namespace Cert.FourierIdeal.Hand

open Idealize.ShloMosaic Idealize.SL.Sem Cert.FourierIdeal Cert.FourierIdeal.Gen

theorem Reals.comp {ι κ : Type} {x : ι → EReal} (h : Reals x) (g : κ → ι) : Reals fun i => x (g i) := by
  obtain ⟨r, rfl⟩ := h
  exact ⟨fun i => r (g i), rfl⟩

/-- The row's transform of the kernel, as the sums over all the positions. -/
theorem meaning (X : Vec Ideal S8x4096x512 .bf16) (WR WI : Vec Ideal S128x128 .bf16) (CT ST : Vec Ideal S4096x4096 .bf16)
    (hT : Turned X WR WI CT ST) (b : Fin 8) (k : Fin 4) (p : Fin 1024) (q : Fin 512) :
    Y6 (fun i => X (ix3 b (i 1) (i 2))) (WG WR WI) (TAB CT ST) k p q =
    (∑ n : Fin 4096, (∑ d : Fin 128, X (ix3 b n (chan q d)) * WR (ix2 d ⟨q.val % 128, by omega⟩)) * CT (ix2 (row k p) n)) +
    ∑ n : Fin 4096, (∑ d : Fin 128, X (ix3 b n (chan q d)) * WI (ix2 d ⟨q.val % 128, by omega⟩)) * ST (ix2 (row k p) n) := by
  unfold Y6
  rw [sum_halves]
  have er (n : Fin 4096) : zre (fun i => X (ix3 b (i 1) (i 2))) (WG WR WI) n q =
      ∑ d : Fin 128, X (ix3 b n (chan q d)) * WR (ix2 d ⟨q.val % 128, by omega⟩) := by
    unfold zre
    refine Finset.sum_congr rfl fun d _ => congrArg₂ (· * ·) rfl ?_
    exact dif_pos (show q.val % 128 < 128 by omega)
  have ei (n : Fin 4096) : zim (fun i => X (ix3 b (i 1) (i 2))) (WG WR WI) n q =
      ∑ d : Fin 128, X (ix3 b n (chan q d)) * WI (ix2 d ⟨q.val % 128, by omega⟩) := by
    unfold zim
    refine Finset.sum_congr rfl fun d _ => congrArg₂ (· * ·) rfl ?_
    refine (dif_neg (show ¬ 128 + q.val % 128 < 128 by omega)).trans (congrArg WI ?_)
    exact congrArg (ix2 d) (Fin.ext (show 128 + q.val % 128 - 128 = q.val % 128 by omega))
  have tr (b : Fin 1024) : TAB CT ST (ix3 k p ⟨b.val, by omega⟩) = CT (ix2 (row k p) (at4 0 b)) := by
    refine (dif_pos (show b.val < 1024 by omega)).trans (congrArg CT ?_)
    exact congrArg (ix2 (row k p)) (Fin.ext (show b.val = 1024 * 0 + b.val by omega))
  have ti (b : Fin 1024) : TAB CT ST (ix3 k p ⟨1024 + b.val, by omega⟩) = ST (ix2 (row k p) (at4 0 b)) := by
    refine (dif_neg (show ¬ 1024 + b.val < 1024 by omega)).trans (congrArg ST ?_)
    exact congrArg (ix2 (row k p)) (Fin.ext (show 1024 + b.val - 1024 = 1024 * 0 + b.val by omega))
  have hC : Reals fun n => CT (ix2 (row k p) n) := hT.ct.comp fun n => ix2 (row k p) n
  have hS : Reals fun n => ST (ix2 (row k p) n) := hT.st.comp fun n => ix2 (row k p) n
  have hr : Reals fun n : Fin 4096 => ∑ d : Fin 128, X (ix3 b n (chan q d)) * WR (ix2 d ⟨q.val % 128, by omega⟩) :=
    Reals.dot (x := fun n d => X (ix3 b n (chan q d))) (y := fun _ d => WR (ix2 d ⟨q.val % 128, by omega⟩))
      (hT.x.comp fun z : Fin 4096 × Fin 128 => ix3 b z.1 (chan q z.2)) (hT.wr.comp fun z : Fin 4096 × Fin 128 => ix2 z.2 ⟨q.val % 128, by omega⟩)
  have hi : Reals fun n : Fin 4096 => ∑ d : Fin 128, X (ix3 b n (chan q d)) * WI (ix2 d ⟨q.val % 128, by omega⟩) :=
    Reals.dot (x := fun n d => X (ix3 b n (chan q d))) (y := fun _ d => WI (ix2 d ⟨q.val % 128, by omega⟩))
      (hT.x.comp fun z : Fin 4096 × Fin 128 => ix3 b z.1 (chan q z.2)) (hT.wi.comp fun z : Fin 4096 × Fin 128 => ix2 z.2 ⟨q.val % 128, by omega⟩)
  refine (Finset.sum_congr rfl fun b' _ => ?_).trans ((fold k _ _ _ _ hC hS hr hi (hT.tc k p) (hT.ts k p)).trans ?_)
  · rw [tr, ti, A5_re _ _ k k ⟨b'.val, by omega⟩ q q b'.val (fun a => at4 a b') rfl rfl b'.isLt (fun _ => rfl) rfl,
      A5_im _ _ k k ⟨1024 + b'.val, by omega⟩ q q b'.val (fun a => at4 a b') rfl rfl b'.isLt (fun _ => rfl) rfl]
    simp only [er, ei]
  · exact congrArg₂ (· + ·) (Finset.sum_congr rfl fun n _ => mul_comm _ _) (Finset.sum_congr rfl fun n _ => mul_comm _ _)

/-- The transforms of the kernel and of the reference are the same on memories agreeing on the arguments. -/
theorem tie : algebraic_FourierIdeal_FourierRefIdeal_pre_fourier_tables := by
  intro m ρ m' ρ' hpre hagree
  refine ⟨_, Cert.FourierIdeal.Value.run_blocks (F := Ideal) m ρ, ?_⟩
  refine (θ_run Cert.FourierRefIdeal.defs _ _).mono (fun _ h c => ⟨?_, (h c).2⟩) (Cert.FourierRefIdeal.Value.run (F := Ideal) m' ρ')
  rw [(h c).1]
  simp only [hagree c]
  rw [final]
  have hT := turned _ _ _ _ _ (hpre c)
  clear h hpre hagree
  funext j
  unfold SPEC
  refine Eq.trans ?_ (meaning _ _ _ _ _ hT _ _ _ _).symm
  clear hT
  pointwise [chan, row]
  blk_point []

end Cert.FourierIdeal.Hand

end
-- ==== Proof.lean ====
/- The claims of the certificate, put together: the feed-forward, mixer, input projection, conditioning and Fourier
   programs, each with its reference. -/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.FfnFinal
public import proofs.«01_k».proof.Proof.AdaFinal
public import proofs.«01_k».proof.Proof.MixerClose
public import proofs.«01_k».proof.Proof.ProjClose
public import proofs.«01_k».proof.Proof.FourierClose
public import Idealize.ShloMosaic.Lib.Pipeline.ValueKit
public import Idealize.ShloMosaic.Lib.Pointwise
public import proofs.«01_k».proof.Proof.Gen.Mixer.Frame
public import proofs.«01_k».proof.Proof.Gen.MixerIdeal.Value
public import proofs.«01_k».proof.Proof.Gen.MixerRefIdeal.Run
public import proofs.«01_k».proof.Proof.Gen.Proj.Frame
public import proofs.«01_k».proof.Proof.Gen.ProjIdeal.Value
public import proofs.«01_k».proof.Proof.Gen.ProjRefIdeal.Run
public import proofs.«01_k».proof.Proof.Gen.Ada.Frame
public import proofs.«01_k».proof.Proof.Gen.AdaIdeal.Value
public import proofs.«01_k».proof.Proof.Gen.AdaRefIdeal.Run
public import proofs.«01_k».proof.Proof.Gen.Fourier.Frame
public import proofs.«01_k».proof.Proof.Gen.FourierIdeal.Value
public import proofs.«01_k».proof.Proof.Gen.FourierRefIdeal.Run
public import proofs.«01_k».proof.Proof.Gen.Pre_fourier_tables
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- Every run of the feed-forward reference terminates and leaves the arguments as they were. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The feed-forward kernel and its reference compute the same array. -/
theorem algebraic_FfnIdeal_FfnRefIdeal : algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨?_, (h c).2⟩) (Cert.FfnRefIdeal.Value.run (F := Ideal) m' ρ')
  rw [(h c).1]
  simp only [hagree c]
  rw [Cert.FfnIdeal.Hand.final]
  funext j
  rw [Cert.FfnIdeal.Hand.SPEC_eq]
  clear h
  simp only [Ideal.logistic]
  pointwise []

/-- Every run of the mixer reference terminates and leaves the arguments as they were. -/
theorem quiescent_MixerRefIdeal : quiescent_MixerRefIdeal := fun m ρ _ =>
  (θ_run Cert.MixerRefIdeal.defs _ _).mono (fun r h => ⟨fun c => (h c).2.2.2, sem_eq_zero_of_no_sems (by decide) r.2⟩)
    (Cert.MixerRefIdeal.Value.run (F := Ideal) m ρ)

/-- Every run of the projection reference terminates and leaves the arguments as they were. -/
theorem quiescent_ProjRefIdeal : quiescent_ProjRefIdeal := fun m ρ _ =>
  (θ_run Cert.ProjRefIdeal.defs _ _).mono (fun r h => ⟨fun c => (h c).2.2, sem_eq_zero_of_no_sems (by decide) r.2⟩)
    (Cert.ProjRefIdeal.Value.run (F := Ideal) m ρ)

/-- Every run of the conditioning reference terminates and leaves the arguments as they were. -/
theorem quiescent_AdaRefIdeal : quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- Every run of the Fourier reference terminates and leaves the arguments as they were. -/
theorem quiescent_FourierRefIdeal : quiescent_FourierRefIdeal := fun m ρ _ =>
  (θ_run Cert.FourierRefIdeal.defs _ _).mono (fun r h => ⟨fun c => (h c).2, sem_eq_zero_of_no_sems (by decide) r.2⟩)
    (Cert.FourierRefIdeal.Value.run (F := Ideal) m ρ)

/-- Everything the certificate claims. -/
theorem claim : Cert.Claim := ⟨Cert.Ffn.Gen.facts, Cert.FfnIdeal.Gen.facts, Cert.FfnRefIdeal.Gen.facts,
  Cert.Mixer.Gen.facts, Cert.MixerIdeal.Gen.facts, Cert.MixerRefIdeal.Gen.facts,
  Cert.Proj.Gen.facts, Cert.ProjIdeal.Gen.facts, Cert.ProjRefIdeal.Gen.facts,
  Cert.Ada.Gen.facts, Cert.AdaIdeal.Gen.facts, Cert.AdaRefIdeal.Gen.facts,
  Cert.Fourier.Gen.facts, Cert.FourierIdeal.Gen.facts, Cert.FourierRefIdeal.Gen.facts, Cert.Pre_fourier_tables.Gen.facts,
  fun m ρ _ => Cert.Ffn.Gen.frame m ρ, fun m ρ _ => Cert.FfnIdeal.Gen.frame m ρ, quiescent_FfnRefIdeal,
  fun m ρ _ => Cert.Mixer.Gen.frame m ρ, fun m ρ _ => Cert.MixerIdeal.Gen.frame m ρ, quiescent_MixerRefIdeal,
  fun m ρ _ => Cert.Proj.Gen.frame m ρ, fun m ρ _ => Cert.ProjIdeal.Gen.frame m ρ, quiescent_ProjRefIdeal,
  fun m ρ _ => Cert.Ada.Gen.frame m ρ, fun m ρ _ => Cert.AdaIdeal.Gen.frame m ρ, quiescent_AdaRefIdeal,
  fun m ρ _ => Cert.Fourier.Gen.frame m ρ, fun m ρ _ => Cert.FourierIdeal.Gen.frame m ρ, fun m ρ _ => Cert.FourierIdeal.Gen.frame m ρ,
  quiescent_FourierRefIdeal, fun m ρ _ => quiescent_FourierRefIdeal m ρ trivial,
  (trivial : preserves_Ffn_FfnIdeal), algebraic_FfnIdeal_FfnRefIdeal,
  (trivial : preserves_Mixer_MixerIdeal), Cert.MixerIdeal.Hand.tie,
  (trivial : preserves_Proj_ProjIdeal), Cert.ProjIdeal.Hand.tie,
  (trivial : preserves_Ada_AdaIdeal), Cert.AdaIdeal.Hand.tie,
  (trivial : preserves_Fourier_FourierIdeal), Cert.FourierIdeal.Hand.tie⟩

end Cert.Proof

end
